-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x2048x1024 : Shape := ⟨3, ![2, 2048, 1024]⟩
abbrev S1024x16x64 : Shape := ⟨3, ![1024, 16, 64]⟩
abbrev S16x64 : Shape := ⟨2, ![16, 64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x16x64 : S_.BroadcastsInDim S1024x16x64 (![] : Fin 0 → Fin S1024x16x64.rank)
  reducesTo_S1024x16x64_S_d0_1_2 : S1024x16x64.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg5 : FVec F S16x64 .f32) (main_arg6 : FVec F S16x64 .f32) (main_v13 : IVec S_ 1) (main_v16 : IVec S1024x16x64 1) : IVec S_ 1 :=
  let main_c_5 : IVec S_ 1 := constantI S_ 1 1#1
  let main_v17 : IVec S_ 1 := (fun x v => Host.reduce IntOp.andi x v reducesTo_S1024x16x64_S_d0_1_2 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  main_v28

def fn {F : FTy → Type} [FloatOps F] (main_arg0 : FVec F S2x2048x1024 .f32) (main_arg1 : FVec F S2x2048x1024 .f32) (main_arg2 : FVec F S1024x16x64 .f32) (main_arg3 : FVec F S1024x16x64 .f32) (main_arg4 : FVec F S1024x16x64 .f32) (main_arg5 : FVec F S16x64 .f32) (main_arg6 : FVec F S16x64 .f32) (main_arg7 : FVec F S16x64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024x16x64 .f32 := Host.absf main_arg2
  let main_cst_2 : FVec F S_ .f32 := constant S_ .f32 0x7F800000#32
  let main_v10 : FVec F S1024x16x64 .f32 := broadcastInDim S1024x16x64 ![] bcast_S_S1024x16x64 main_cst_2
  let main_v11 : IVec S1024x16x64 1 := cmpf .olt main_v9 main_v10
  let main_c_3 : IVec S_ 1 := constantI S_ 1 1#1
  let main_v12 : IVec S_ 1 := (fun x v => Host.reduce IntOp.andi x v reducesTo_S1024x16x64_S_d0_1_2 h_S_) main_v11 main_c_3
  let main_v13 : IVec S_ 1 := andi main_v8 main_v12
  let main_v14 : FVec F S1024x16x64 .f32 := Host.absf main_arg3
  let main_cst_4 : FVec F S_ .f32 := constant S_ .f32 0x7F800000#32
  let main_v15 : FVec F S1024x16x64 .f32 := broadcastInDim S1024x16x64 ![] bcast_S_S1024x16x64 main_cst_4
  let main_v16 : IVec S1024x16x64 1 := cmpf .olt main_v14 main_v15
  fn_part1 (F := F) main_arg5 main_arg6 main_v13 main_v16
-- ==== Kernel.lean ====
abbrev S2x2048x1024 : Shape := ⟨3, ![2, 2048, 1024]⟩
abbrev S1024x16x64 : Shape := ⟨3, ![1024, 16, 64]⟩
abbrev S16x64 : Shape := ⟨2, ![16, 64]⟩
abbrev S32x7 : Shape := ⟨2, ![32, 7]⟩
abbrev S32 : Shape := ⟨1, ![32]⟩
abbrev S1024x1024 : Shape := ⟨2, ![1024, 1024]⟩
abbrev S_ : Shape := ⟨0, ![]⟩
abbrev S1x1024 : Shape := ⟨2, ![1, 1024]⟩
abbrev S1x64x1024 : Shape := ⟨3, ![1, 64, 1024]⟩
abbrev S1x2048x1024 : Shape := ⟨3, ![1, 2048, 1024]⟩
abbrev S16x2048x64 : Shape := ⟨3, ![16, 2048, 64]⟩
abbrev S16x448x64 : Shape := ⟨3, ![16, 448, 64]⟩
abbrev S2048x1024 : Shape := ⟨2, ![2048, 1024]⟩
abbrev S2048x64 : Shape := ⟨2, ![2048, 64]⟩
abbrev S1x2048x64 : Shape := ⟨3, ![1, 2048, 64]⟩
abbrev S64x1024 : Shape := ⟨2, ![64, 1024]⟩
abbrev S64x64 : Shape := ⟨2, ![64, 64]⟩
abbrev S1x64x64 : Shape := ⟨3, ![1, 64, 64]⟩
abbrev S16x64x64 : Shape := ⟨3, ![16, 64, 64]⟩
abbrev S16x64x2048 : Shape := ⟨3, ![16, 64, 2048]⟩
abbrev S16x64x1 : Shape := ⟨3, ![16, 64, 1]⟩
abbrev S1x1 : Shape := ⟨2, ![1, 1]⟩
abbrev S16x64x448 : Shape := ⟨3, ![16, 64, 448]⟩
abbrev S1 : Shape := ⟨1, ![1]⟩

abbrev nBuf : Space → Nat
  | .hbm => 24
  | .vmem => 16
  | .smem => 2
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x16x64, .f32⟩
  | .hbm, ⟨3, _⟩ => ⟨S1024x16x64, .f32⟩
  | .hbm, ⟨4, _⟩ => ⟨S1024x16x64, .f32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S2x2048x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x64x1024, .f32⟩
  | .local _ .vmem, ⟨11, _⟩ => ⟨S1x64x1024, .f32⟩
  | .local _ .vmem, ⟨12, _⟩ => ⟨S16x2048x64, .bf16⟩
  | .local _ .vmem, ⟨13, _⟩ => ⟨S16x2048x64, .bf16⟩
  | .local _ .vmem, ⟨14, _⟩ => ⟨S16x448x64, .bf16⟩
  | .local _ .vmem, ⟨15, _⟩ => ⟨S16x448x64, .bf16⟩
  | .local _ .smem, ⟨0, _⟩ => ⟨S32x7, .i32⟩
  | .local _ .smem, ⟨1, _⟩ => ⟨S32, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 33], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond4 (i : grid0.Coords) : BitVec 1 :=
  let arg1 : BitVec 32 := BitVec.ofNat 32 (i 1).val
  let c1_i32_10 : BitVec 32 := 1#32
  let v53 : BitVec 1 := Scalar.cmpi .sgt arg1 c1_i32_10
  let v54 : BitVec 32 := Scalar.extui v53
  let c0_i32_11 : BitVec 32 := 0#32
  let v55 : BitVec 1 := Scalar.cmpi .ne v54 c0_i32_11
  v55

def k0_off1 (i : grid0.Coords) : Fin 2 → Nat :=
  let arg1 : BitVec 32 := BitVec.ofNat 32 (i 1).val
  let c1_i32_12 : BitVec 32 := 1#32
  let v56 : BitVec 32 := Scalar.subi arg1 c1_i32_12
  let v57 : Index := Scalar.indexCast v56
  let c0_13 : Index := 0#32
  ![v57.toNat, 0]
def k0_off2 (v58 : BitVec 32) : Fin 3 → Nat :=
  let c0_14 : Index := 0#32
  let c64_i32 : BitVec 32 := 64#32
  let v59 : BitVec 32 := Scalar.muli v58 c64_i32
  let v60 : Index := Scalar.indexCast v59
  let c0_15 : Index := 0#32
  ![0, v60.toNat, 0]

def k0_chk1 (i : grid0.Coords) (v58 : BitVec 32) : Prop :=
  (∀ (k0_h2 : k0_cond2 i = 1#1), ∀ (k0_h4 : k0_cond4 i = 1#1), ∀ a, (k0_off2 v58) a + S16x64x64.size a ≤ S16x2048x64.size a)
theorem k0_off2_inb : ∀ (i : grid0.Coords) (v58 : BitVec 32) (k0_hw1 : k0_chk1 i v58), ∀ (k0_h2 : k0_cond2 i = 1#1), ∀ (k0_h4 : k0_cond4 i = 1#1), ∀ a, (k0_off2 v58) a + S16x64x64.size a ≤ S16x2048x64.size a := fun i v58 k0_hw1 k0_h2 k0_h4 => k0_hw1 k0_h2 k0_h4

def k0_off3 (i : grid0.Coords) : Fin 2 → Nat :=
  let arg1 : BitVec 32 := BitVec.ofNat 32 (i 1).val
  let c1_i32_12 : BitVec 32 := 1#32
  let v56 : BitVec 32 := Scalar.subi arg1 c1_i32_12
  let v71 : Index := Scalar.indexCast v56
  let c1 : Index := 1#32
  ![v71.toNat, 1]
def k0_off4 (v72 : BitVec 32) : Fin 3 → Nat :=
  let c0_26 : Index := 0#32
  let c64_i32_25 : BitVec 32 := 64#32
  let v73 : BitVec 32 := Scalar.muli v72 c64_i32_25
  let v74 : Index := Scalar.indexCast v73
  let c0_27 : Index := 0#32
  ![0, v74.toNat, 0]

def k0_chk2 (i : grid0.Coords) (v72 : BitVec 32) : Prop :=
  (∀ (k0_h2 : k0_cond2 i = 1#1), ∀ (k0_h4 : k0_cond4 i = 1#1), ∀ a, (k0_off4 v72) a + S16x64x64.size a ≤ S16x2048x64.size a)
theorem k0_off4_inb : ∀ (i : grid0.Coords) (v72 : BitVec 32) (k0_hw2 : k0_chk2 i v72), ∀ (k0_h2 : k0_cond2 i = 1#1), ∀ (k0_h4 : k0_cond4 i = 1#1), ∀ a, (k0_off4 v72) a + S16x64x64.size a ≤ S16x2048x64.size a := fun i v72 k0_hw2 k0_h2 k0_h4 => k0_hw2 k0_h2 k0_h4

def k0_off5 (i : grid0.Coords) : Fin 2 → Nat :=
  let arg1 : BitVec 32 := BitVec.ofNat 32 (i 1).val
  let c1_i32_12 : BitVec 32 := 1#32
  let v56 : BitVec 32 := Scalar.subi arg1 c1_i32_12
  let v85 : Index := Scalar.indexCast v56
  let c2 : Index := 2#32
  ![v85.toNat, 2]
def k0_off6 (v86 : BitVec 32) : Fin 3 → Nat :=
  let c0_37 : Index := 0#32
  let c64_i32_36 : BitVec 32 := 64#32
  let v87 : BitVec 32 := Scalar.muli v86 c64_i32_36
  let v88 : Index := Scalar.indexCast v87
  let c0_38 : Index := 0#32
  ![0, v88.toNat, 0]

def k0_chk3 (i : grid0.Coords) (v86 : BitVec 32) : Prop :=
  (∀ (k0_h2 : k0_cond2 i = 1#1), ∀ (k0_h4 : k0_cond4 i = 1#1), ∀ a, (k0_off6 v86) a + S16x64x64.size a ≤ S16x2048x64.size a)
theorem k0_off6_inb : ∀ (i : grid0.Coords) (v86 : BitVec 32) (k0_hw3 : k0_chk3 i v86), ∀ (k0_h2 : k0_cond2 i = 1#1), ∀ (k0_h4 : k0_cond4 i = 1#1), ∀ a, (k0_off6 v86) a + S16x64x64.size a ≤ S16x2048x64.size a := fun i v86 k0_hw3 k0_h2 k0_h4 => k0_hw3 k0_h2 k0_h4

def k0_off7 (i : grid0.Coords) : Fin 2 → Nat :=
  let arg1 : BitVec 32 := BitVec.ofNat 32 (i 1).val
  let c1_i32_12 : BitVec 32 := 1#32
  let v56 : BitVec 32 := Scalar.subi arg1 c1_i32_12
  let v99 : Index := Scalar.indexCast v56
  let c3 : Index := 3#32
  ![v99.toNat, 3]
def k0_off8 (v100 : BitVec 32) : Fin 3 → Nat :=
  let c0_48 : Index := 0#32
  let c64_i32_47 : BitVec 32 := 64#32
  let v101 : BitVec 32 := Scalar.muli v100 c64_i32_47
  let v102 : Index := Scalar.indexCast v101
  let c0_49 : Index := 0#32
  ![0, v102.toNat, 0]

def k0_chk4 (i : grid0.Coords) (v100 : BitVec 32) : Prop :=
  (∀ (k0_h2 : k0_cond2 i = 1#1), ∀ (k0_h4 : k0_cond4 i = 1#1), ∀ a, (k0_off8 v100) a + S16x64x64.size a ≤ S16x2048x64.size a)
theorem k0_off8_inb : ∀ (i : grid0.Coords) (v100 : BitVec 32) (k0_hw4 : k0_chk4 i v100), ∀ (k0_h2 : k0_cond2 i = 1#1), ∀ (k0_h4 : k0_cond4 i = 1#1), ∀ a, (k0_off8 v100) a + S16x64x64.size a ≤ S16x2048x64.size a := fun i v100 k0_hw4 k0_h2 k0_h4 => k0_hw4 k0_h2 k0_h4

def k0_off9 (i : grid0.Coords) : Fin 2 → Nat :=
  let arg1 : BitVec 32 := BitVec.ofNat 32 (i 1).val
  let c1_i32_12 : BitVec 32 := 1#32
  let v56 : BitVec 32 := Scalar.subi arg1 c1_i32_12
  let v113 : Index := Scalar.indexCast v56
  let c4 : Index := 4#32
  ![v113.toNat, 4]
def k0_off10 (v114 : BitVec 32) : Fin 3 → Nat :=
  let c0_59 : Index := 0#32
  let c64_i32_58 : BitVec 32 := 64#32
  let v115 : BitVec 32 := Scalar.muli v114 c64_i32_58
  let v116 : Index := Scalar.indexCast v115
  let c0_60 : Index := 0#32
  ![0, v116.toNat, 0]

def k0_chk5 (i : grid0.Coords) (v114 : BitVec 32) : Prop :=
  (∀ (k0_h2 : k0_cond2 i = 1#1), ∀ (k0_h4 : k0_cond4 i = 1#1), ∀ a, (k0_off10 v114) a + S16x64x64.size a ≤ S16x2048x64.size a)
theorem k0_off10_inb : ∀ (i : grid0.Coords) (v114 : BitVec 32) (k0_hw5 : k0_chk5 i v114), ∀ (k0_h2 : k0_cond2 i = 1#1), ∀ (k0_h4 : k0_cond4 i = 1#1), ∀ a, (k0_off10 v114) a + S16x64x64.size a ≤ S16x2048x64.size a := fun i v114 k0_hw5 k0_h2 k0_h4 => k0_hw5 k0_h2 k0_h4

def k0_off11 (i : grid0.Coords) : Fin 2 → Nat :=
  let arg1 : BitVec 32 := BitVec.ofNat 32 (i 1).val
  let c1_i32_12 : BitVec 32 := 1#32
  let v56 : BitVec 32 := Scalar.subi arg1 c1_i32_12
  let v127 : Index := Scalar.indexCast v56
  let c5 : Index := 5#32
  ![v127.toNat, 5]
def k0_off12 (v128 : BitVec 32) : Fin 3 → Nat :=
  let c0_70 : Index := 0#32
  let c64_i32_69 : BitVec 32 := 64#32
  let v129 : BitVec 32 := Scalar.muli v128 c64_i32_69
  let v130 : Index := Scalar.indexCast v129
  let c0_71 : Index := 0#32
  ![0, v130.toNat, 0]

def k0_chk6 (i : grid0.Coords) (v128 : BitVec 32) : Prop :=
  (∀ (k0_h2 : k0_cond2 i = 1#1), ∀ (k0_h4 : k0_cond4 i = 1#1), ∀ a, (k0_off12 v128) a + S16x64x64.size a ≤ S16x2048x64.size a)
theorem k0_off12_inb : ∀ (i : grid0.Coords) (v128 : BitVec 32) (k0_hw6 : k0_chk6 i v128), ∀ (k0_h2 : k0_cond2 i = 1#1), ∀ (k0_h4 : k0_cond4 i = 1#1), ∀ a, (k0_off12 v128) a + S16x64x64.size a ≤ S16x2048x64.size a := fun i v128 k0_hw6 k0_h2 k0_h4 => k0_hw6 k0_h2 k0_h4

def k0_off13 (i : grid0.Coords) : Fin 2 → Nat :=
  let arg1 : BitVec 32 := BitVec.ofNat 32 (i 1).val
  let c1_i32_12 : BitVec 32 := 1#32
  let v56 : BitVec 32 := Scalar.subi arg1 c1_i32_12
  let v141 : Index := Scalar.indexCast v56
  let c6 : Index := 6#32
  ![v141.toNat, 6]
def k0_off14 (v142 : BitVec 32) : Fin 3 → Nat :=
  let c0_81 : Index := 0#32
  let c64_i32_80 : BitVec 32 := 64#32
  let v143 : BitVec 32 := Scalar.muli v142 c64_i32_80
  let v144 : Index := Scalar.indexCast v143
  let c0_82 : Index := 0#32
  ![0, v144.toNat, 0]

def k0_chk7 (i : grid0.Coords) (v142 : BitVec 32) : Prop :=
  (∀ (k0_h2 : k0_cond2 i = 1#1), ∀ (k0_h4 : k0_cond4 i = 1#1), ∀ a, (k0_off14 v142) a + S16x64x64.size a ≤ S16x2048x64.size a)
theorem k0_off14_inb : ∀ (i : grid0.Coords) (v142 : BitVec 32) (k0_hw7 : k0_chk7 i v142), ∀ (k0_h2 : k0_cond2 i = 1#1), ∀ (k0_h4 : k0_cond4 i = 1#1), ∀ a, (k0_off14 v142) a + S16x64x64.size a ≤ S16x2048x64.size a := fun i v142 k0_hw7 k0_h2 k0_h4 => k0_hw7 k0_h2 k0_h4

def k0_off15 (i : grid0.Coords) : Fin 1 → Nat :=
  let arg1 : BitVec 32 := BitVec.ofNat 32 (i 1).val
  let c1_i32_12 : BitVec 32 := 1#32
  let v56 : BitVec 32 := Scalar.subi arg1 c1_i32_12
  let v157 : Index := Scalar.indexCast v56
  ![v157.toNat]
def k0_cond3 (i : grid0.Coords) : BitVec 1 :=
  let arg1 : BitVec 32 := BitVec.ofNat 32 (i 1).val
  let c1_i32 : BitVec 32 := 1#32
  let v50 : BitVec 1 := Scalar.cmpi .eq arg1 c1_i32
  let v51 : BitVec 32 := Scalar.extui v50
  let c0_i32_9 : BitVec 32 := 0#32
  let v52 : BitVec 1 := Scalar.cmpi .ne v51 c0_i32_9
  v52

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S1024x16x64 : Shape := ⟨3, ![1024, 16, 64]⟩
abbrev S16x64 : Shape := ⟨2, ![16, 64]⟩
abbrev S32x32 : Shape := ⟨2, ![32, 32]⟩
abbrev S32x1x32x1 : Shape := ⟨4, ![32, 1, 32, 1]⟩
abbrev S32x64x32x64 : Shape := ⟨4, ![32, 64, 32, 64]⟩
abbrev S2048x2048 : Shape := ⟨2, ![2048, 2048]⟩
abbrev S2x2048x16x64 : Shape := ⟨4, ![2, 2048, 16, 64]⟩
abbrev S1x1x16x64 : Shape := ⟨4, ![1, 1, 16, 64]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x16x64, .f32⟩
  | .hbm, ⟨3, _⟩ => ⟨S1024x16x64, .f32⟩
  | .hbm, ⟨4, _⟩ => ⟨S1024x16x64, .f32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S32x32, .f32⟩
  | .hbm, ⟨9, _⟩ => ⟨S32x1x32x1, .f32⟩
  | .hbm, ⟨10, _⟩ => ⟨S32x64x32x64, .f32⟩
  | .hbm, ⟨11, _⟩ => ⟨S2048x2048, .f32⟩
  | .hbm, ⟨12, _⟩ => ⟨S2x2048x16x64, .f32⟩
  | .hbm, ⟨13, _⟩ => ⟨S1x1x16x64, .f32⟩
  | .hbm, ⟨14, _⟩ => ⟨S2x2048x16x64, .f32⟩
  | .hbm, ⟨15, _⟩ => ⟨S2x2048x16x64, .f32⟩
  | .hbm, ⟨16, _⟩ => ⟨S2x2048x16x64, .f32⟩
  | .hbm, ⟨17, _⟩ => ⟨S1x1x16x64, .f32⟩
  | .hbm, ⟨18, _⟩ => ⟨S2x2048x16x64, .f32⟩
  | .hbm, ⟨19, _⟩ => ⟨S2x2048x16x64, .f32⟩
  | .hbm, ⟨20, _⟩ => ⟨S2x2048x16x64, .f32⟩
  | .hbm, ⟨21, _⟩ => ⟨S1x1x16x64, .f32⟩
  | .hbm, ⟨22, _⟩ => ⟨S2x2048x16x64, .f32⟩
  | .hbm, ⟨23, _⟩ => ⟨S2x2048x16x64, .f32⟩
  | .hbm, ⟨24, _⟩ => ⟨S2x16x2048x2048, .f32⟩
  | .hbm, ⟨25, _⟩ => ⟨S_, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2048x2048, .f32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S1x1x2048x2048, .f32⟩
  | .hbm, ⟨37, _⟩ => ⟨S1x1x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S_, .f32⟩
  | .hbm, ⟨43, _⟩ => ⟨S2x16x2048, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S2x16x2048x1, .f32⟩
  | .hbm, ⟨52, _⟩ => ⟨S2x16x2048x2048, .f32⟩
  | .hbm, ⟨53, _⟩ => ⟨S2x16x2048x2048, .f32⟩
  | .hbm, ⟨54, _⟩ => ⟨S2x16x64x2048, .f32⟩
  | .hbm, ⟨55, _⟩ => ⟨S2x2048x16x64, .f32⟩
  | .hbm, ⟨56, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proof.KI.Values.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.Value
public import Idealize.ShloMosaic.Lib.ValueIdxCoords
public import Idealize.ShloMosaic.Lib.WholeRead

/-! What one point of the grid leaves in the buffers it writes, as plain functions of what it reads. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F] [Named F]

/-- A projected row block split by heads: entry (head, row, feature) is column `64 * head + feature` of the row. -/
def splitHeads (p : FVec F S2048x1024 .bf16) : Vec F S16x2048x64 .bf16 := fun y =>
  p (ix2 (n0 := 2048) (n1 := 1024) (y 1) ⟨64 * (y 0).val + (y 2).val, by
    have h0 : (y 0).val < 16 := (y 0).isLt; have h2 : (y 2).val < 64 := (y 2).isLt; omega⟩)

/-- The heads of a row block side by side: column `c` of a row is feature `c % 64` of head `c / 64`. -/
def joinHeads (u : FVec F S16x64x64 .f32) : Vec F S1x64x1024 .f32 := fun y =>
  u (ix3 (n0 := 16) (n1 := 64) (n2 := 64) ⟨(y 2).val / 64, by have h2 : (y 2).val < 1024 := (y 2).isLt; omega⟩ (y 1)
    ⟨(y 2).val % 64, by omega⟩)

/-- The key (or value) rows of seven blocks, one after another: row `64 * s + r` is row `64 * w s + r`. -/
def gatherRows (w : Fin 7 → BitVec 32) (x : Vec F S16x2048x64 .bf16) : Vec F S16x448x64 .bf16 := fun y =>
  x (ix3 (n0 := 16) (n1 := 2048) (n2 := 64) (y 0)
    ⟨((w ⟨(y 1).val / 64, by have h1 : (y 1).val < 448 := (y 1).isLt; omega⟩).toNat * 64 + (y 1).val % 64) % 2048, by omega⟩ (y 2))

/-- One head's columns of the projected rows are the head's part of the split array. -/
theorem split_piece (p : FVec F S2048x1024 .bf16) (h : ℕ) (hh : h < 16) (o : ℕ) (ho : o = 64 * h)
    (hs : S2048x1024.Slices ![0, o] S2048x64) (hc : S2048x64.ShapeCasts S1x2048x64)
    (inb : ∀ a, (![h, 0, 0] : Fin 3 → ℕ) a + S1x2048x64.size a ≤ S16x2048x64.size a) (z : S1x2048x64.Idx) :
    shapeCast S1x2048x64 (extractStridedSlice S2048x64 ![0, o] p hs) hc z
      = splitHeads p ((Rect.unit (s := S16x2048x64) ![h, 0, 0] S1x2048x64.size inb).emb z) := by
  subst ho
  have h0 : (z 0).val = 0 := by have h := (z 0).isLt; simp at h; omega
  refine (shapeCast_addUnit_apply ![2048, 64] _ _ z).trans ?_
  refine extractStridedSlice_apply _ p hs _ _ fun a => ?_
  match a with
  | ⟨0, _⟩ => show 0 + 1 * (z 1).val = 0 + (z 1).val; omega
  | ⟨1, _⟩ => show 64 * (h + 1 * (z 0).val) + (0 + 1 * (z 2).val) = 64 * h + (z 2).val; omega

/-- One head of a stack of heads, laid out as a row block, is the head's columns of the joined row block. -/
theorem join_piece (u : FVec F S16x64x64 .f32) (h : ℕ) (hh : h < 16) (o : ℕ) (ho : o = 64 * h)
    (hs : S16x64x64.Slices ![h, 0, 0] S1x64x64) (hc : S1x64x64.ShapeCasts S64x64) (hc' : S64x64.ShapeCasts S1x64x64)
    (inb : ∀ a, (![0, 0, o] : Fin 3 → ℕ) a + S1x64x64.size a ≤ S1x64x1024.size a) (z : S1x64x64.Idx) :
    shapeCast S1x64x64 (shapeCast S64x64 (extractStridedSlice S1x64x64 ![h, 0, 0] u hs) hc) hc' z
      = joinHeads u ((Rect.unit (s := S1x64x1024) ![0, 0, o] S1x64x64.size inb).emb z) := by
  subst ho
  have h2 : (z 2).val < 64 := (z 2).isLt
  refine (shapeCast_addUnit_apply ![64, 64] _ _ z).trans ?_
  refine (shapeCast_dropUnit_apply ![64, 64] _ _ _).trans ?_
  refine extractStridedSlice_apply _ u hs _ _ fun a => ?_
  match a with
  | ⟨0, _⟩ => show (64 * h + 1 * (z 2).val) / 64 = h + 0; omega
  | ⟨1, _⟩ => show 0 + 1 * (z 1).val = 0 + (z 1).val; omega
  | ⟨2, _⟩ => show (64 * h + 1 * (z 2).val) % 64 = 0 + (z 2).val; omega

/-- A load of a whole buffer reads its contents. -/
theorem readAt_all {κ : Kind} {sp : Space} {S : Shape} {e : EltTy} {m : Memref sig κ sp S e} (h : m.IsWhole) {off : Fin S.rank → ℕ}
    (ho : off = fun _ => 0) (inb : ∀ a, off a + S.size a ≤ S.size a) (X : S.Idx → Elt F e) :
    View.readAt (Elt F) m.view (Rect.unit (s := S) off S.size inb).toLoadRect (h.unread X) = X :=
  (funext fun x => h.readAt_unread X _ x).trans (View.ld_unit_zero ho inb X)

/-- Stores that tile a buffer, each agreeing with one function of the buffer's places, leave that function. -/
theorem read_tiled {κ : Kind} {sp : Space} {S : Shape} {e : EltTy} (m : Memref sig κ sp S e) (f : m.view.ty.Contents (Elt F))
    (G : S.Idx → Elt F e) (L : List (View.Piece (Elt F) S e)) (size : Fin S.rank → ℕ)
    (hG : L.Forall fun p => ∀ x : p.1.shape.Idx, p.2 x = G (p.1.emb x)) (hc : View.Piece.tiledL L size = true) :
    m.view.read (Elt F) (m.view.writes (Elt F) f L) = G :=
  funext fun y => View.read_writes_apply_of_pieces _ f G L (List.forall_iff_forall_mem.mp hG) y (View.cover_of_tiledL L size hc y)

/-- A load of the whole buffer after stores that tile it, each agreeing with one function of the places, reads that function. -/
theorem readCov_tiled {κ : Kind} {sp : Space} {S : Shape} {e : EltTy} (m : Memref sig κ sp S e) (G : S.Idx → Elt F e)
    (L : List (View.Piece (Elt F) S e)) (size : Fin S.rank → ℕ) {off : Fin S.rank → ℕ} (ho : off = fun _ => 0) (inb : ∀ a, off a + S.size a ≤ S.size a)
    (hG : L.Forall fun p => ∀ x : p.1.shape.Idx, p.2 x = G (p.1.emb x)) (hc : View.Piece.tiledL L size = true) :
    m.view.readCov L (Rect.unit (s := S) off S.size inb).toLoadRect = G := by
  refine Eq.trans (funext fun j => ?_) (View.ld_unit_zero ho inb G)
  exact View.read_writes_apply_of_pieces _ _ G L (List.forall_iff_forall_mem.mp hG) _ (View.cover_of_tiledL L size hc _)

/-- The rows of one block, read at the block's first row and stored as stretch `s`, are the stretch of the gathered rows. -/
theorem gather_piece (w : Fin 7 → BitVec 32) (hw : ∀ s, (w s).toNat < 32) (s : ℕ) (hs : s < 7) (o : ℕ) (ho : o = 64 * s) (v : BitVec 32)
    (hv : v = w ⟨s, hs⟩) {m : Memref sig .tc .vmem S16x2048x64 .bf16} (hm : m.IsWhole) (x : Vec F S16x2048x64 .bf16)
    (inb : ∀ a, (![0, (Scalar.indexCast (Scalar.muli v 64#32)).toNat, 0] : Fin 3 → ℕ) a + S16x64x64.size a ≤ S16x2048x64.size a)
    (hc : S16x64x64.ShapeCasts S16x64x64)
    (inb' : ∀ a, (![0, o, 0] : Fin 3 → ℕ) a + S16x64x64.size a ≤ S16x448x64.size a) (z : S16x64x64.Idx) :
    shapeCast S16x64x64 (View.readAt (Elt F) m.view
        (Rect.unit (s := S16x2048x64) ![0, (Scalar.indexCast (Scalar.muli v 64#32)).toNat, 0] S16x64x64.size inb).toLoadRect (hm.unread x)) hc z
      = gatherRows w x ((Rect.unit (s := S16x448x64) ![0, o, 0] S16x64x64.size inb').emb z) := by
  subst ho; subst hv
  have h1 : (z 1).val < 64 := (z 1).isLt
  have hw' := hw ⟨s, hs⟩
  refine (congrFun (shapeCast_self (s := S16x64x64) _ hc) z).trans ?_
  refine (hm.readAt_unread x (Rect.unit (s := S16x2048x64) ![0, (Scalar.indexCast (Scalar.muli (w ⟨s, hs⟩) 64#32)).toNat, 0] S16x64x64.size inb).toLoadRect z).trans (congrArg x (funext fun a => Fin.ext ?_))
  have e : (Scalar.muli (w ⟨s, hs⟩) 64#32).toNat = (w ⟨s, hs⟩).toNat * 64 := by
    show (w ⟨s, hs⟩ * 64#32).toNat = _
    rw [BitVec.toNat_mul]
    exact Nat.mod_eq_of_lt (by show (w ⟨s, hs⟩).toNat * 64 < 4294967296; omega)
  match a with
  | ⟨0, _⟩ => rfl
  | ⟨1, _⟩ =>
    show (Scalar.muli (w ⟨s, hs⟩) 64#32).toNat + 1 * (z 1).val = ((w ⟨(64 * s + 1 * (z 1).val) / 64, _⟩).toNat * 64 + (64 * s + 1 * (z 1).val) % 64) % 2048
    have es : (⟨(64 * s + 1 * (z 1).val) / 64, by omega⟩ : Fin 7) = ⟨s, hs⟩ := Fin.ext (by show (64 * s + 1 * (z 1).val) / 64 = s; omega)
    rw [es, e]
    omega
  | ⟨2, _⟩ => rfl

end Cert.KernelIdeal.Attn
-- ==== Proof.KI.RunFirst.lean ====
module

public import proofs.«01_k».proof.Proof.KI.Values

/-! The body at the first point of a batch entry: it projects the keys and the values and splits them by heads. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F] [Named F]

local notation "𝕄" => MT nD τ sig Unit (Elt F) ℕ (UR sig nD τ) ℕ

/-- The first point of a batch entry (the grid's second coordinate is zero). -/
abbrev firstPt (i : grid0.Coords) : Prop :=
  (Scalar.cmpi .ne (Scalar.extui (Scalar.cmpi .eq (BitVec.ofNat 32 (i 1).val) 0#32)) 0#32) = 1#1

set_option maxHeartbeats 4000000 in
/-- At the first point of a batch entry the body leaves the projected keys and values, split by heads, in the two
    carried buffers, and touches nothing else. -/
theorem run_first (c : Dev nD) (i : grid0.Coords) (arg2 : Memref sig .tc .smem S32x7 .i32) (harg2 : arg2.IsWhole) (arg3 : Memref sig .tc .smem S32 .i32) (harg3 : arg3.IsWhole)
  (arg4 : Memref sig .tc .vmem S1x64x1024 .f32) (harg4 : arg4.IsWhole) (arg5 : Memref sig .tc .vmem S1x2048x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x64x1024 .f32) (harg12 : arg12.IsWhole) (arg13 : Memref sig .tc .vmem S16x2048x64 .bf16) (harg13 : arg13.IsWhole)
  (arg14 : Memref sig .tc .vmem S16x2048x64 .bf16) (harg14 : arg14.IsWhole) (arg15 : Memref sig .tc .vmem S16x448x64 .bf16) (harg15 : arg15.IsWhole)
  (arg16 : Memref sig .tc .vmem S16x448x64 .bf16) (harg16 : arg16.IsWhole)
  (h0 : firstPt i) (h2 : ¬ k0_cond2 i = 1#1)
  (x1 : Vec F S1x2048x1024 .f32) (w3 w4 : Vec F S1024x1024 .bf16) (b6 b7 : Vec F S1x1024 .f32)
  (E : Set ℕ) (K : PUnit → sProp 𝕄) :
  iprop(owns (c : Thread nD τ) arg5 fullShare x1 ∗ owns (c : Thread nD τ) arg7 fullShare w3 ∗ owns (c : Thread nD τ) arg8 fullShare w4
      ∗ owns (c : Thread nD τ) arg10 fullShare b6 ∗ owns (c : Thread nD τ) arg11 fullShare b7
      ∗ (∃ d, owns (c : Thread nD τ) arg13 fullShare d) ∗ (∃ d, owns (c : Thread nD τ) arg14 fullShare d)
      ∗ (iprop(owns (c : Thread nD τ) arg5 fullShare x1 ∗ owns (c : Thread nD τ) arg7 fullShare w3 ∗ owns (c : Thread nD τ) arg8 fullShare w4
          ∗ owns (c : Thread nD τ) arg10 fullShare b6 ∗ owns (c : Thread nD τ) arg11 fullShare b7
          ∗ owns (c : Thread nD τ) arg13 fullShare (splitHeads (k0_pay12 x1 w3 b6))
          ∗ owns (c : Thread nD τ) arg14 fullShare (splitHeads (k0_pay31 (k0_pay11 x1) w4 b7))) -∗ K ⟨⟩))
    ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]
  unfold cc0__fused_kernel_skel
  simp only [k0_part1_eq_skeleton, k0_part2_eq_skeleton, k0_part3_eq_skeleton, k0_part4_eq_skeleton]
  unfold owns
  iintro ⟨⟨%f1, %hf1, H1⟩, ⟨%f3, %hf3, H3⟩, ⟨%f4, %hf4, H4⟩, ⟨%f6, %hf6, H6⟩, ⟨%f7, %hf7, H7⟩, ⟨%d8, %f8, -, H8⟩, ⟨%d9, %f9, -, H9⟩, Hk⟩
  obtain rfl := harg5.eq_unread hf1
  obtain rfl := harg7.eq_unread hf3
  obtain rfl := harg8.eq_unread hf4
  obtain rfl := harg10.eq_unread hf6
  obtain rfl := harg11.eq_unread hf7
  have e5 := readAt_all harg5 (off := ![0, 0, 0]) (by decide) inb_S1x2048x1024_S1x2048x1024_0_0_0 x1
  have e7 := readAt_all harg7 (off := ![0, 0]) (by decide) inb_S1024x1024_S1024x1024_0_0 w3
  have e8 := readAt_all harg8 (off := ![0, 0]) (by decide) inb_S1024x1024_S1024x1024_0_0 w4
  have e10 := readAt_all harg10 (off := ![0, 0]) (by decide) inb_S1x1024_S1x1024_0_0 b6
  have e11 := readAt_all harg11 (off := ![0, 0]) (by decide) inb_S1x1024_S1x1024_0_0 b7
  sl_exec (disch := first | sl_exact h0 | sl_exact h2)
  sl_step
  iapply Hk
  isplitl [H1]; · iexists _; isplitr; · ipureintro; exact harg5.read_unread _
                  iexact H1
  isplitl [H3]; · iexists _; isplitr; · ipureintro; exact harg7.read_unread _
                  iexact H3
  isplitl [H4]; · iexists _; isplitr; · ipureintro; exact harg8.read_unread _
                  iexact H4
  isplitl [H6]; · iexists _; isplitr; · ipureintro; exact harg10.read_unread _
                  iexact H6
  isplitl [H7]; · iexists _; isplitr; · ipureintro; exact harg11.read_unread _
                  iexact H7
  isplitl [H8]
  · iexists _; isplitr; rotate_left; · iexact H8
    ipureintro
    exact read_tiled arg13 f8 _ _ S1x2048x64.size
      ⟨split_piece (k0_pay12 x1 w3 b6) 15 (by decide) 960 rfl slices_S2048x1024_o0_960_S2048x64 shapeCasts_S2048x64_S1x2048x64 inb_S16x2048x64_S1x2048x64_15_0_0, split_piece (k0_pay12 x1 w3 b6) 14 (by decide) 896 rfl slices_S2048x1024_o0_896_S2048x64 shapeCasts_S2048x64_S1x2048x64 inb_S16x2048x64_S1x2048x64_14_0_0, split_piece (k0_pay12 x1 w3 b6) 13 (by decide) 832 rfl slices_S2048x1024_o0_832_S2048x64 shapeCasts_S2048x64_S1x2048x64 inb_S16x2048x64_S1x2048x64_13_0_0, split_piece (k0_pay12 x1 w3 b6) 12 (by decide) 768 rfl slices_S2048x1024_o0_768_S2048x64 shapeCasts_S2048x64_S1x2048x64 inb_S16x2048x64_S1x2048x64_12_0_0, split_piece (k0_pay12 x1 w3 b6) 11 (by decide) 704 rfl slices_S2048x1024_o0_704_S2048x64 shapeCasts_S2048x64_S1x2048x64 inb_S16x2048x64_S1x2048x64_11_0_0, split_piece (k0_pay12 x1 w3 b6) 10 (by decide) 640 rfl slices_S2048x1024_o0_640_S2048x64 shapeCasts_S2048x64_S1x2048x64 inb_S16x2048x64_S1x2048x64_10_0_0, split_piece (k0_pay12 x1 w3 b6) 9 (by decide) 576 rfl slices_S2048x1024_o0_576_S2048x64 shapeCasts_S2048x64_S1x2048x64 inb_S16x2048x64_S1x2048x64_9_0_0, split_piece (k0_pay12 x1 w3 b6) 8 (by decide) 512 rfl slices_S2048x1024_o0_512_S2048x64 shapeCasts_S2048x64_S1x2048x64 inb_S16x2048x64_S1x2048x64_8_0_0, split_piece (k0_pay12 x1 w3 b6) 7 (by decide) 448 rfl slices_S2048x1024_o0_448_S2048x64 shapeCasts_S2048x64_S1x2048x64 inb_S16x2048x64_S1x2048x64_7_0_0, split_piece (k0_pay12 x1 w3 b6) 6 (by decide) 384 rfl slices_S2048x1024_o0_384_S2048x64 shapeCasts_S2048x64_S1x2048x64 inb_S16x2048x64_S1x2048x64_6_0_0, split_piece (k0_pay12 x1 w3 b6) 5 (by decide) 320 rfl slices_S2048x1024_o0_320_S2048x64 shapeCasts_S2048x64_S1x2048x64 inb_S16x2048x64_S1x2048x64_5_0_0, split_piece (k0_pay12 x1 w3 b6) 4 (by decide) 256 rfl slices_S2048x1024_o0_256_S2048x64 shapeCasts_S2048x64_S1x2048x64 inb_S16x2048x64_S1x2048x64_4_0_0, split_piece (k0_pay12 x1 w3 b6) 3 (by decide) 192 rfl slices_S2048x1024_o0_192_S2048x64 shapeCasts_S2048x64_S1x2048x64 inb_S16x2048x64_S1x2048x64_3_0_0, split_piece (k0_pay12 x1 w3 b6) 2 (by decide) 128 rfl slices_S2048x1024_o0_128_S2048x64 shapeCasts_S2048x64_S1x2048x64 inb_S16x2048x64_S1x2048x64_2_0_0, split_piece (k0_pay12 x1 w3 b6) 1 (by decide) 64 rfl slices_S2048x1024_o0_64_S2048x64 shapeCasts_S2048x64_S1x2048x64 inb_S16x2048x64_S1x2048x64_1_0_0, split_piece (k0_pay12 x1 w3 b6) 0 (by decide) 0 rfl slices_S2048x1024_o0_0_S2048x64 shapeCasts_S2048x64_S1x2048x64 inb_S16x2048x64_S1x2048x64_0_0_0⟩ (by sl_kernel_rfl)
  · iexists _; isplitr; rotate_left; · iexact H9
    ipureintro
    exact read_tiled arg14 f9 _ _ S1x2048x64.size
      ⟨split_piece (k0_pay31 (k0_pay11 x1) w4 b7) 15 (by decide) 960 rfl slices_S2048x1024_o0_960_S2048x64 shapeCasts_S2048x64_S1x2048x64 inb_S16x2048x64_S1x2048x64_15_0_0, split_piece (k0_pay31 (k0_pay11 x1) w4 b7) 14 (by decide) 896 rfl slices_S2048x1024_o0_896_S2048x64 shapeCasts_S2048x64_S1x2048x64 inb_S16x2048x64_S1x2048x64_14_0_0, split_piece (k0_pay31 (k0_pay11 x1) w4 b7) 13 (by decide) 832 rfl slices_S2048x1024_o0_832_S2048x64 shapeCasts_S2048x64_S1x2048x64 inb_S16x2048x64_S1x2048x64_13_0_0, split_piece (k0_pay31 (k0_pay11 x1) w4 b7) 12 (by decide) 768 rfl slices_S2048x1024_o0_768_S2048x64 shapeCasts_S2048x64_S1x2048x64 inb_S16x2048x64_S1x2048x64_12_0_0, split_piece (k0_pay31 (k0_pay11 x1) w4 b7) 11 (by decide) 704 rfl slices_S2048x1024_o0_704_S2048x64 shapeCasts_S2048x64_S1x2048x64 inb_S16x2048x64_S1x2048x64_11_0_0, split_piece (k0_pay31 (k0_pay11 x1) w4 b7) 10 (by decide) 640 rfl slices_S2048x1024_o0_640_S2048x64 shapeCasts_S2048x64_S1x2048x64 inb_S16x2048x64_S1x2048x64_10_0_0, split_piece (k0_pay31 (k0_pay11 x1) w4 b7) 9 (by decide) 576 rfl slices_S2048x1024_o0_576_S2048x64 shapeCasts_S2048x64_S1x2048x64 inb_S16x2048x64_S1x2048x64_9_0_0, split_piece (k0_pay31 (k0_pay11 x1) w4 b7) 8 (by decide) 512 rfl slices_S2048x1024_o0_512_S2048x64 shapeCasts_S2048x64_S1x2048x64 inb_S16x2048x64_S1x2048x64_8_0_0, split_piece (k0_pay31 (k0_pay11 x1) w4 b7) 7 (by decide) 448 rfl slices_S2048x1024_o0_448_S2048x64 shapeCasts_S2048x64_S1x2048x64 inb_S16x2048x64_S1x2048x64_7_0_0, split_piece (k0_pay31 (k0_pay11 x1) w4 b7) 6 (by decide) 384 rfl slices_S2048x1024_o0_384_S2048x64 shapeCasts_S2048x64_S1x2048x64 inb_S16x2048x64_S1x2048x64_6_0_0, split_piece (k0_pay31 (k0_pay11 x1) w4 b7) 5 (by decide) 320 rfl slices_S2048x1024_o0_320_S2048x64 shapeCasts_S2048x64_S1x2048x64 inb_S16x2048x64_S1x2048x64_5_0_0, split_piece (k0_pay31 (k0_pay11 x1) w4 b7) 4 (by decide) 256 rfl slices_S2048x1024_o0_256_S2048x64 shapeCasts_S2048x64_S1x2048x64 inb_S16x2048x64_S1x2048x64_4_0_0, split_piece (k0_pay31 (k0_pay11 x1) w4 b7) 3 (by decide) 192 rfl slices_S2048x1024_o0_192_S2048x64 shapeCasts_S2048x64_S1x2048x64 inb_S16x2048x64_S1x2048x64_3_0_0, split_piece (k0_pay31 (k0_pay11 x1) w4 b7) 2 (by decide) 128 rfl slices_S2048x1024_o0_128_S2048x64 shapeCasts_S2048x64_S1x2048x64 inb_S16x2048x64_S1x2048x64_2_0_0, split_piece (k0_pay31 (k0_pay11 x1) w4 b7) 1 (by decide) 64 rfl slices_S2048x1024_o0_64_S2048x64 shapeCasts_S2048x64_S1x2048x64 inb_S16x2048x64_S1x2048x64_1_0_0, split_piece (k0_pay31 (k0_pay11 x1) w4 b7) 0 (by decide) 0 rfl slices_S2048x1024_o0_0_S2048x64 shapeCasts_S2048x64_S1x2048x64 inb_S16x2048x64_S1x2048x64_0_0_0⟩ (by sl_kernel_rfl)

end Cert.KernelIdeal.Attn
-- ==== Proof.KI.RunDense.lean ====
module

public import proofs.«01_k».proof.Proof.KI.RunFirst

/-! The body at the second point of a batch entry: the query rows attend to all the keys. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F] [Named F]

local notation "𝕄" => MT nD τ sig Unit (Elt F) ℕ (UR sig nD τ) ℕ

set_option maxHeartbeats 4000000 in
/-- At the second point of a batch entry the body leaves the dense attention of the query block, heads side by side,
    in the output block. -/
theorem run_dense (c : Dev nD) (i : grid0.Coords) (arg2 : Memref sig .tc .smem S32x7 .i32) (harg2 : arg2.IsWhole) (arg3 : Memref sig .tc .smem S32 .i32) (harg3 : arg3.IsWhole)
  (arg4 : Memref sig .tc .vmem S1x64x1024 .f32) (harg4 : arg4.IsWhole) (arg5 : Memref sig .tc .vmem S1x2048x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x64x1024 .f32) (harg12 : arg12.IsWhole) (arg13 : Memref sig .tc .vmem S16x2048x64 .bf16) (harg13 : arg13.IsWhole)
  (arg14 : Memref sig .tc .vmem S16x2048x64 .bf16) (harg14 : arg14.IsWhole) (arg15 : Memref sig .tc .vmem S16x448x64 .bf16) (harg15 : arg15.IsWhole)
  (arg16 : Memref sig .tc .vmem S16x448x64 .bf16) (harg16 : arg16.IsWhole)
  (h0 : ¬ firstPt i) (h2 : k0_cond2 i = 1#1) (h3 : k0_cond3 i = 1#1) (h4 : ¬ k0_cond4 i = 1#1)
  (x0 : Vec F S1x64x1024 .f32) (w2 : Vec F S1024x1024 .bf16) (b5 : Vec F S1x1024 .f32) (xk xv : Vec F S16x2048x64 .bf16)
  (E : Set ℕ) (K : PUnit → sProp 𝕄) :
  iprop(owns (c : Thread nD τ) arg4 fullShare x0 ∗ owns (c : Thread nD τ) arg6 fullShare w2 ∗ owns (c : Thread nD τ) arg9 fullShare b5
      ∗ owns (c : Thread nD τ) arg13 fullShare xk ∗ owns (c : Thread nD τ) arg14 fullShare xv
      ∗ (∃ d, owns (c : Thread nD τ) arg12 fullShare d)
      ∗ (iprop(owns (c : Thread nD τ) arg4 fullShare x0 ∗ owns (c : Thread nD τ) arg6 fullShare w2 ∗ owns (c : Thread nD τ) arg9 fullShare b5
          ∗ owns (c : Thread nD τ) arg13 fullShare xk ∗ owns (c : Thread nD τ) arg14 fullShare xv
          ∗ owns (c : Thread nD τ) arg12 fullShare (joinHeads (k0_pay43 (k0_pay85 x0 w2 b5) xk xv))) -∗ K ⟨⟩))
    ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]
  unfold cc0__fused_kernel_skel
  simp only [k0_part13_eq_skeleton, k0_part5_eq_skeleton, k0_part6_eq_skeleton]
  unfold owns
  iintro ⟨⟨%f0, %hf0, H0⟩, ⟨%f2, %hf2, H2⟩, ⟨%f5, %hf5, H5⟩, ⟨%f8, %hf8, H8⟩, ⟨%f9, %hf9, H9⟩, ⟨%d7, %f7, -, H7⟩, Hk⟩
  obtain rfl := harg4.eq_unread hf0
  obtain rfl := harg6.eq_unread hf2
  obtain rfl := harg9.eq_unread hf5
  obtain rfl := harg13.eq_unread hf8
  obtain rfl := harg14.eq_unread hf9
  have e4 := readAt_all harg4 (off := ![0, 0, 0]) (by decide) inb_S1x64x1024_S1x64x1024_0_0_0 x0
  have e6 := readAt_all harg6 (off := ![0, 0]) (by decide) inb_S1024x1024_S1024x1024_0_0 w2
  have e9 := readAt_all harg9 (off := ![0, 0]) (by decide) inb_S1x1024_S1x1024_0_0 b5
  have e13 := readAt_all harg13 (off := ![0, 0, 0]) (by decide) inb_S16x2048x64_S16x2048x64_0_0_0 xk
  have e14 := readAt_all harg14 (off := ![0, 0, 0]) (by decide) inb_S16x2048x64_S16x2048x64_0_0_0 xv
  sl_exec (disch := first | sl_exact h0 | sl_exact h2 | sl_exact h3 | sl_exact h4)
  sl_step
  iapply Hk
  isplitl [H0]; · iexists _; isplitr; · ipureintro; exact harg4.read_unread _
                  iexact H0
  isplitl [H2]; · iexists _; isplitr; · ipureintro; exact harg6.read_unread _
                  iexact H2
  isplitl [H5]; · iexists _; isplitr; · ipureintro; exact harg9.read_unread _
                  iexact H5
  isplitl [H8]; · iexists _; isplitr; · ipureintro; exact harg13.read_unread _
                  iexact H8
  isplitl [H9]; · iexists _; isplitr; · ipureintro; exact harg14.read_unread _
                  iexact H9
  iexists _; isplitr; rotate_left; · iexact H7
  ipureintro
  exact read_tiled arg12 f7 _ _ S1x64x64.size
    ⟨join_piece (k0_pay43 (k0_pay85 x0 w2 b5) xk xv) 15 (by decide) 960 rfl slices_S16x64x64_o15_0_0_S1x64x64 shapeCasts_S1x64x64_S64x64 shapeCasts_S64x64_S1x64x64 inb_S1x64x1024_S1x64x64_0_0_960, join_piece (k0_pay43 (k0_pay85 x0 w2 b5) xk xv) 14 (by decide) 896 rfl slices_S16x64x64_o14_0_0_S1x64x64 shapeCasts_S1x64x64_S64x64 shapeCasts_S64x64_S1x64x64 inb_S1x64x1024_S1x64x64_0_0_896, join_piece (k0_pay43 (k0_pay85 x0 w2 b5) xk xv) 13 (by decide) 832 rfl slices_S16x64x64_o13_0_0_S1x64x64 shapeCasts_S1x64x64_S64x64 shapeCasts_S64x64_S1x64x64 inb_S1x64x1024_S1x64x64_0_0_832, join_piece (k0_pay43 (k0_pay85 x0 w2 b5) xk xv) 12 (by decide) 768 rfl slices_S16x64x64_o12_0_0_S1x64x64 shapeCasts_S1x64x64_S64x64 shapeCasts_S64x64_S1x64x64 inb_S1x64x1024_S1x64x64_0_0_768, join_piece (k0_pay43 (k0_pay85 x0 w2 b5) xk xv) 11 (by decide) 704 rfl slices_S16x64x64_o11_0_0_S1x64x64 shapeCasts_S1x64x64_S64x64 shapeCasts_S64x64_S1x64x64 inb_S1x64x1024_S1x64x64_0_0_704, join_piece (k0_pay43 (k0_pay85 x0 w2 b5) xk xv) 10 (by decide) 640 rfl slices_S16x64x64_o10_0_0_S1x64x64 shapeCasts_S1x64x64_S64x64 shapeCasts_S64x64_S1x64x64 inb_S1x64x1024_S1x64x64_0_0_640, join_piece (k0_pay43 (k0_pay85 x0 w2 b5) xk xv) 9 (by decide) 576 rfl slices_S16x64x64_o9_0_0_S1x64x64 shapeCasts_S1x64x64_S64x64 shapeCasts_S64x64_S1x64x64 inb_S1x64x1024_S1x64x64_0_0_576, join_piece (k0_pay43 (k0_pay85 x0 w2 b5) xk xv) 8 (by decide) 512 rfl slices_S16x64x64_o8_0_0_S1x64x64 shapeCasts_S1x64x64_S64x64 shapeCasts_S64x64_S1x64x64 inb_S1x64x1024_S1x64x64_0_0_512, join_piece (k0_pay43 (k0_pay85 x0 w2 b5) xk xv) 7 (by decide) 448 rfl slices_S16x64x64_o7_0_0_S1x64x64 shapeCasts_S1x64x64_S64x64 shapeCasts_S64x64_S1x64x64 inb_S1x64x1024_S1x64x64_0_0_448, join_piece (k0_pay43 (k0_pay85 x0 w2 b5) xk xv) 6 (by decide) 384 rfl slices_S16x64x64_o6_0_0_S1x64x64 shapeCasts_S1x64x64_S64x64 shapeCasts_S64x64_S1x64x64 inb_S1x64x1024_S1x64x64_0_0_384, join_piece (k0_pay43 (k0_pay85 x0 w2 b5) xk xv) 5 (by decide) 320 rfl slices_S16x64x64_o5_0_0_S1x64x64 shapeCasts_S1x64x64_S64x64 shapeCasts_S64x64_S1x64x64 inb_S1x64x1024_S1x64x64_0_0_320, join_piece (k0_pay43 (k0_pay85 x0 w2 b5) xk xv) 4 (by decide) 256 rfl slices_S16x64x64_o4_0_0_S1x64x64 shapeCasts_S1x64x64_S64x64 shapeCasts_S64x64_S1x64x64 inb_S1x64x1024_S1x64x64_0_0_256, join_piece (k0_pay43 (k0_pay85 x0 w2 b5) xk xv) 3 (by decide) 192 rfl slices_S16x64x64_o3_0_0_S1x64x64 shapeCasts_S1x64x64_S64x64 shapeCasts_S64x64_S1x64x64 inb_S1x64x1024_S1x64x64_0_0_192, join_piece (k0_pay43 (k0_pay85 x0 w2 b5) xk xv) 2 (by decide) 128 rfl slices_S16x64x64_o2_0_0_S1x64x64 shapeCasts_S1x64x64_S64x64 shapeCasts_S64x64_S1x64x64 inb_S1x64x1024_S1x64x64_0_0_128, join_piece (k0_pay43 (k0_pay85 x0 w2 b5) xk xv) 1 (by decide) 64 rfl slices_S16x64x64_o1_0_0_S1x64x64 shapeCasts_S1x64x64_S64x64 shapeCasts_S64x64_S1x64x64 inb_S1x64x1024_S1x64x64_0_0_64, join_piece (k0_pay43 (k0_pay85 x0 w2 b5) xk xv) 0 (by decide) 0 rfl slices_S16x64x64_o0_0_0_S1x64x64 shapeCasts_S1x64x64_S64x64 shapeCasts_S64x64_S1x64x64 inb_S1x64x1024_S1x64x64_0_0_0⟩ (by sl_kernel_rfl)

end Cert.KernelIdeal.Attn
-- ==== Proof.KI.RunSparse.lean ====
module

public import proofs.«01_k».proof.Proof.KI.RunDense

/-! The body at the other points: the query rows attend to the gathered blocks. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F] [Named F]

local notation "𝕄" => MT nD τ sig Unit (Elt F) ℕ (UR sig nD τ) ℕ

/-- The table of gathered blocks and the table of their counts, as the body is handed them. -/
abbrev idxMem : Memref sig .tc .smem S32x7 .i32 := Memref.whole main_c
abbrev cntMem : Memref sig .tc .smem S32 .i32 := Memref.whole main_c_0

/-- A table's buffer held at half the full share. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The query block's row in the tables: one less than the grid's second coordinate. -/
def rowOf (i : grid0.Coords) : Fin 32 := ⟨((i 1).val - 1) % 32, Nat.mod_lt _ (by decide)⟩

/-- The query block's seven gathered block numbers. -/
def rowWords (c : Dev nD) (i : grid0.Coords) (t2 : Buf (Elt F) (idxMem.view.loc (c : Thread nD τ))) : Fin 7 → BitVec 32 :=
  fun s => t2 (ix2 (n0 := 32) (n1 := 7) (rowOf i) s)

/-- The number of the query block's gathered blocks that count. -/
def rowCount (c : Dev nD) (i : grid0.Coords) (t3 : Buf (Elt F) (cntMem.view.loc (c : Thread nD τ))) : BitVec 32 :=
  t3 (ix1 (n := 32) (rowOf i))

/-- The row number the body computes is the row, past the first point. -/
theorem row_word (i : grid0.Coords) (h2 : k0_cond2 i = 1#1) :
    (Scalar.indexCast (Scalar.subi (BitVec.ofNat 32 (i 1).val) 1#32)).toNat + 1 * 0 = (rowOf i).val := by
  have hi : (i 1).val < 33 := (i 1).isLt
  have h1 : (i 1).val ≠ 0 := by
    intro h0
    rw [k0_cond2, h0] at h2
    exact absurd h2 (by decide)
  show (BitVec.ofNat 32 (i 1).val - 1#32).toNat + 1 * 0 = ((i 1).val - 1) % 32
  rw [BitVec.toNat_sub, BitVec.toNat_ofNat]
  show (4294967296 - 1 + (i 1).val % 4294967296) % 4294967296 + 1 * 0 = _
  omega

/-- A word the body reads from the table of blocks is the row's entry. -/
theorem row_entry (c : Dev nD) (i : grid0.Coords) (h2 : k0_cond2 i = 1#1) (t2 : Buf (Elt F) (idxMem.view.loc (c : Thread nD τ)))
    (s : ℕ) (hs : s < 7)
    (inb : ∀ a, (![(Scalar.indexCast (Scalar.subi (BitVec.ofNat 32 (i 1).val) 1#32)).toNat, s] : Fin 2 → ℕ) a + S1x1.size a ≤ S32x7.size a) :
    View.readAt (Elt F) idxMem.view (Rect.unit (s := S32x7) ![(Scalar.indexCast (Scalar.subi (BitVec.ofNat 32 (i 1).val) 1#32)).toNat, s] S1x1.size inb).toLoadRect t2
        (Shape.Idx.first numel1_S1x1.ge) = rowWords c i t2 ⟨s, hs⟩ :=
  congrArg t2 (funext fun a => Fin.ext (by
    match a with
    | ⟨0, _⟩ => exact row_word i h2
    | ⟨1, _⟩ => exact Nat.add_zero s))

/-- The sparse attention of equal gathered rows and counts is equal. -/
theorem sparse_congr (q : FVec F S16x64x64 .bf16) {v v' k k' : Vec F S16x448x64 .bf16} {n n' : Elt F .i32} (hv : v = v') (hk : k = k') (hn : n = n') :
    joinHeads (k0_pay71 v (k0_pay69 q k n) (k0_pay70 q k n)) = joinHeads (k0_pay71 v' (k0_pay69 q k' n') (k0_pay70 q k' n')) := by
  subst hv hk hn; rfl

/-- A block number below 32 names a block of 64 rows inside the 2048. -/
theorem off_inb (v : BitVec 32) (hv : v.toNat < 32) : ∀ a, (![0, (Scalar.indexCast (Scalar.muli v 64#32)).toNat, 0] : Fin 3 → ℕ) a + S16x64x64.size a ≤ S16x2048x64.size a := by
  have e : (Scalar.muli v 64#32).toNat = v.toNat * 64 := by
    show (v * 64#32).toNat = _
    rw [BitVec.toNat_mul]
    exact Nat.mod_eq_of_lt (by show v.toNat * 64 < 4294967296; omega)
  intro a
  match a with
  | ⟨0, _⟩ => exact le_refl 16
  | ⟨1, _⟩ => show (Scalar.muli v 64#32).toNat + 64 ≤ 2048; rw [e]; omega
  | ⟨2, _⟩ => exact le_refl 64

set_option maxHeartbeats 4000000 in
/-- At the other points the body leaves the attention of the query block over the gathered blocks, heads side by side,
    in the output block. -/
theorem run_sparse (c : Dev nD) (i : grid0.Coords)
  (arg4 : Memref sig .tc .vmem S1x64x1024 .f32) (harg4 : arg4.IsWhole) (arg5 : Memref sig .tc .vmem S1x2048x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x64x1024 .f32) (harg12 : arg12.IsWhole) (arg13 : Memref sig .tc .vmem S16x2048x64 .bf16) (harg13 : arg13.IsWhole)
  (arg14 : Memref sig .tc .vmem S16x2048x64 .bf16) (harg14 : arg14.IsWhole) (arg15 : Memref sig .tc .vmem S16x448x64 .bf16) (harg15 : arg15.IsWhole)
  (arg16 : Memref sig .tc .vmem S16x448x64 .bf16) (harg16 : arg16.IsWhole)
  (h0 : ¬ firstPt i) (h2 : k0_cond2 i = 1#1) (h3 : ¬ k0_cond3 i = 1#1) (h4 : k0_cond4 i = 1#1)
  (x0 : Vec F S1x64x1024 .f32) (w2 : Vec F S1024x1024 .bf16) (b5 : Vec F S1x1024 .f32) (xk xv : Vec F S16x2048x64 .bf16)
  (t2 : Buf (Elt F) (idxMem.view.loc (c : Thread nD τ))) (t3 : Buf (Elt F) (cntMem.view.loc (c : Thread nD τ)))
  (hT : ∀ p, BitVec.toNat (w := 32) (t2 p) < 32)
  (E : Set ℕ) (K : PUnit → sProp 𝕄) :
  iprop(tabPt c idxMem t2 ∗ tabPt c cntMem t3
      ∗ owns (c : Thread nD τ) arg4 fullShare x0 ∗ owns (c : Thread nD τ) arg6 fullShare w2 ∗ owns (c : Thread nD τ) arg9 fullShare b5
      ∗ owns (c : Thread nD τ) arg13 fullShare xk ∗ owns (c : Thread nD τ) arg14 fullShare xv
      ∗ (∃ d, owns (c : Thread nD τ) arg12 fullShare d) ∗ (∃ d, owns (c : Thread nD τ) arg15 fullShare d) ∗ (∃ d, owns (c : Thread nD τ) arg16 fullShare d)
      ∗ (iprop(tabPt c idxMem t2 ∗ tabPt c cntMem t3
          ∗ owns (c : Thread nD τ) arg4 fullShare x0 ∗ owns (c : Thread nD τ) arg6 fullShare w2 ∗ owns (c : Thread nD τ) arg9 fullShare b5
          ∗ owns (c : Thread nD τ) arg13 fullShare xk ∗ owns (c : Thread nD τ) arg14 fullShare xv
          ∗ owns (c : Thread nD τ) arg12 fullShare (joinHeads (k0_pay71 (gatherRows (rowWords c i t2) xv)
              (k0_pay69 (k0_pay85 x0 w2 b5) (gatherRows (rowWords c i t2) xk) (rowCount c i t3))
              (k0_pay70 (k0_pay85 x0 w2 b5) (gatherRows (rowWords c i t2) xk) (rowCount c i t3))))
          ∗ owns (c : Thread nD τ) arg15 fullShare (gatherRows (rowWords c i t2) xk) ∗ owns (c : Thread nD τ) arg16 fullShare (gatherRows (rowWords c i t2) xv)) -∗ K ⟨⟩))
    ⊢ wp frame (wpE (defs₀ (F := F)) Variants.none c none) E (cc0__fused_kernel i idxMem (Memref.isWhole_whole _) cntMem (Memref.isWhole_whole _) arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]
  unfold cc0__fused_kernel_skel
  simp only [k0_part13_eq_skeleton, k0_part7_eq_skeleton, k0_part8_eq_skeleton, k0_part9_eq_skeleton, k0_part10_eq_skeleton,
    k0_part11_eq_skeleton, k0_part12_eq_skeleton]
  unfold owns
  iintro ⟨T2, T3, ⟨%f0, %hf0, H0⟩, ⟨%f2, %hf2, H2⟩, ⟨%f5, %hf5, H5⟩, ⟨%f8, %hf8, H8⟩, ⟨%f9, %hf9, H9⟩, ⟨%d7, %f7, -, H7⟩, ⟨%d10, %f10, -, H10⟩, ⟨%d11, %f11, -, H11⟩, Hk⟩
  obtain rfl := harg4.eq_unread hf0
  obtain rfl := harg6.eq_unread hf2
  obtain rfl := harg9.eq_unread hf5
  obtain rfl := harg13.eq_unread hf8
  obtain rfl := harg14.eq_unread hf9
  have e4 := readAt_all harg4 (off := ![0, 0, 0]) (by decide) inb_S1x64x1024_S1x64x1024_0_0_0 x0
  have e6 := readAt_all harg6 (off := ![0, 0]) (by decide) inb_S1024x1024_S1024x1024_0_0 w2
  have e9 := readAt_all harg9 (off := ![0, 0]) (by decide) inb_S1x1024_S1x1024_0_0 b5
  have hw : ∀ s, (rowWords c i t2 s).toNat < 32 := fun s => hT _
  sl_exec (disch := first | sl_exact h0 | sl_exact h2 | sl_exact h3 | sl_exact h4 | exact fun _ _ => off_inb _ (hT _))
  sl_step
  iapply Hk
  isplitl [T2]; · iexact T2
  isplitl [T3]; · iexact T3
  isplitl [H0]; · iexists _; isplitr; · ipureintro; exact harg4.read_unread _
                  iexact H0
  isplitl [H2]; · iexists _; isplitr; · ipureintro; exact harg6.read_unread _
                  iexact H2
  isplitl [H5]; · iexists _; isplitr; · ipureintro; exact harg9.read_unread _
                  iexact H5
  isplitl [H8]; · iexists _; isplitr; · ipureintro; exact harg13.read_unread _
                  iexact H8
  isplitl [H9]; · iexists _; isplitr; · ipureintro; exact harg14.read_unread _
                  iexact H9
  isplitl [H7]
  · iexists _; isplitr; rotate_left; · iexact H7
    ipureintro
    refine Eq.trans (read_tiled arg12 f7 (joinHeads (k0_pay71 _ (k0_pay69 (k0_pay85 x0 w2 b5) _ _) (k0_pay70 (k0_pay85 x0 w2 b5) _ _))) _ S1x64x64.size
      ⟨join_piece (k0_pay71 _ (k0_pay69 (k0_pay85 x0 w2 b5) _ _) (k0_pay70 (k0_pay85 x0 w2 b5) _ _)) 15 (by decide) 960 rfl slices_S16x64x64_o15_0_0_S1x64x64 shapeCasts_S1x64x64_S64x64 shapeCasts_S64x64_S1x64x64 inb_S1x64x1024_S1x64x64_0_0_960, join_piece (k0_pay71 _ (k0_pay69 (k0_pay85 x0 w2 b5) _ _) (k0_pay70 (k0_pay85 x0 w2 b5) _ _)) 14 (by decide) 896 rfl slices_S16x64x64_o14_0_0_S1x64x64 shapeCasts_S1x64x64_S64x64 shapeCasts_S64x64_S1x64x64 inb_S1x64x1024_S1x64x64_0_0_896, join_piece (k0_pay71 _ (k0_pay69 (k0_pay85 x0 w2 b5) _ _) (k0_pay70 (k0_pay85 x0 w2 b5) _ _)) 13 (by decide) 832 rfl slices_S16x64x64_o13_0_0_S1x64x64 shapeCasts_S1x64x64_S64x64 shapeCasts_S64x64_S1x64x64 inb_S1x64x1024_S1x64x64_0_0_832, join_piece (k0_pay71 _ (k0_pay69 (k0_pay85 x0 w2 b5) _ _) (k0_pay70 (k0_pay85 x0 w2 b5) _ _)) 12 (by decide) 768 rfl slices_S16x64x64_o12_0_0_S1x64x64 shapeCasts_S1x64x64_S64x64 shapeCasts_S64x64_S1x64x64 inb_S1x64x1024_S1x64x64_0_0_768, join_piece (k0_pay71 _ (k0_pay69 (k0_pay85 x0 w2 b5) _ _) (k0_pay70 (k0_pay85 x0 w2 b5) _ _)) 11 (by decide) 704 rfl slices_S16x64x64_o11_0_0_S1x64x64 shapeCasts_S1x64x64_S64x64 shapeCasts_S64x64_S1x64x64 inb_S1x64x1024_S1x64x64_0_0_704, join_piece (k0_pay71 _ (k0_pay69 (k0_pay85 x0 w2 b5) _ _) (k0_pay70 (k0_pay85 x0 w2 b5) _ _)) 10 (by decide) 640 rfl slices_S16x64x64_o10_0_0_S1x64x64 shapeCasts_S1x64x64_S64x64 shapeCasts_S64x64_S1x64x64 inb_S1x64x1024_S1x64x64_0_0_640, join_piece (k0_pay71 _ (k0_pay69 (k0_pay85 x0 w2 b5) _ _) (k0_pay70 (k0_pay85 x0 w2 b5) _ _)) 9 (by decide) 576 rfl slices_S16x64x64_o9_0_0_S1x64x64 shapeCasts_S1x64x64_S64x64 shapeCasts_S64x64_S1x64x64 inb_S1x64x1024_S1x64x64_0_0_576, join_piece (k0_pay71 _ (k0_pay69 (k0_pay85 x0 w2 b5) _ _) (k0_pay70 (k0_pay85 x0 w2 b5) _ _)) 8 (by decide) 512 rfl slices_S16x64x64_o8_0_0_S1x64x64 shapeCasts_S1x64x64_S64x64 shapeCasts_S64x64_S1x64x64 inb_S1x64x1024_S1x64x64_0_0_512, join_piece (k0_pay71 _ (k0_pay69 (k0_pay85 x0 w2 b5) _ _) (k0_pay70 (k0_pay85 x0 w2 b5) _ _)) 7 (by decide) 448 rfl slices_S16x64x64_o7_0_0_S1x64x64 shapeCasts_S1x64x64_S64x64 shapeCasts_S64x64_S1x64x64 inb_S1x64x1024_S1x64x64_0_0_448, join_piece (k0_pay71 _ (k0_pay69 (k0_pay85 x0 w2 b5) _ _) (k0_pay70 (k0_pay85 x0 w2 b5) _ _)) 6 (by decide) 384 rfl slices_S16x64x64_o6_0_0_S1x64x64 shapeCasts_S1x64x64_S64x64 shapeCasts_S64x64_S1x64x64 inb_S1x64x1024_S1x64x64_0_0_384, join_piece (k0_pay71 _ (k0_pay69 (k0_pay85 x0 w2 b5) _ _) (k0_pay70 (k0_pay85 x0 w2 b5) _ _)) 5 (by decide) 320 rfl slices_S16x64x64_o5_0_0_S1x64x64 shapeCasts_S1x64x64_S64x64 shapeCasts_S64x64_S1x64x64 inb_S1x64x1024_S1x64x64_0_0_320, join_piece (k0_pay71 _ (k0_pay69 (k0_pay85 x0 w2 b5) _ _) (k0_pay70 (k0_pay85 x0 w2 b5) _ _)) 4 (by decide) 256 rfl slices_S16x64x64_o4_0_0_S1x64x64 shapeCasts_S1x64x64_S64x64 shapeCasts_S64x64_S1x64x64 inb_S1x64x1024_S1x64x64_0_0_256, join_piece (k0_pay71 _ (k0_pay69 (k0_pay85 x0 w2 b5) _ _) (k0_pay70 (k0_pay85 x0 w2 b5) _ _)) 3 (by decide) 192 rfl slices_S16x64x64_o3_0_0_S1x64x64 shapeCasts_S1x64x64_S64x64 shapeCasts_S64x64_S1x64x64 inb_S1x64x1024_S1x64x64_0_0_192, join_piece (k0_pay71 _ (k0_pay69 (k0_pay85 x0 w2 b5) _ _) (k0_pay70 (k0_pay85 x0 w2 b5) _ _)) 2 (by decide) 128 rfl slices_S16x64x64_o2_0_0_S1x64x64 shapeCasts_S1x64x64_S64x64 shapeCasts_S64x64_S1x64x64 inb_S1x64x1024_S1x64x64_0_0_128, join_piece (k0_pay71 _ (k0_pay69 (k0_pay85 x0 w2 b5) _ _) (k0_pay70 (k0_pay85 x0 w2 b5) _ _)) 1 (by decide) 64 rfl slices_S16x64x64_o1_0_0_S1x64x64 shapeCasts_S1x64x64_S64x64 shapeCasts_S64x64_S1x64x64 inb_S1x64x1024_S1x64x64_0_0_64, join_piece (k0_pay71 _ (k0_pay69 (k0_pay85 x0 w2 b5) _ _) (k0_pay70 (k0_pay85 x0 w2 b5) _ _)) 0 (by decide) 0 rfl slices_S16x64x64_o0_0_0_S1x64x64 shapeCasts_S1x64x64_S64x64 shapeCasts_S64x64_S1x64x64 inb_S1x64x1024_S1x64x64_0_0_0⟩ (by sl_kernel_rfl)) ?_
    refine sparse_congr (k0_pay85 x0 w2 b5) ?_ ?_ ?_
    · exact readCov_tiled arg16 _ _ S16x64x64.size (by decide) _ ⟨gather_piece (rowWords c i t2) hw 6 (by decide) 384 rfl _ (row_entry c i h2 t2 6 (by decide) _) harg14 xv _ shapeCasts_S16x64x64_S16x64x64 inb_S16x448x64_S16x64x64_0_384_0, gather_piece (rowWords c i t2) hw 5 (by decide) 320 rfl _ (row_entry c i h2 t2 5 (by decide) _) harg14 xv _ shapeCasts_S16x64x64_S16x64x64 inb_S16x448x64_S16x64x64_0_320_0, gather_piece (rowWords c i t2) hw 4 (by decide) 256 rfl _ (row_entry c i h2 t2 4 (by decide) _) harg14 xv _ shapeCasts_S16x64x64_S16x64x64 inb_S16x448x64_S16x64x64_0_256_0, gather_piece (rowWords c i t2) hw 3 (by decide) 192 rfl _ (row_entry c i h2 t2 3 (by decide) _) harg14 xv _ shapeCasts_S16x64x64_S16x64x64 inb_S16x448x64_S16x64x64_0_192_0, gather_piece (rowWords c i t2) hw 2 (by decide) 128 rfl _ (row_entry c i h2 t2 2 (by decide) _) harg14 xv _ shapeCasts_S16x64x64_S16x64x64 inb_S16x448x64_S16x64x64_0_128_0, gather_piece (rowWords c i t2) hw 1 (by decide) 64 rfl _ (row_entry c i h2 t2 1 (by decide) _) harg14 xv _ shapeCasts_S16x64x64_S16x64x64 inb_S16x448x64_S16x64x64_0_64_0, gather_piece (rowWords c i t2) hw 0 (by decide) 0 rfl _ (row_entry c i h2 t2 0 (by decide) _) harg14 xv _ shapeCasts_S16x64x64_S16x64x64 inb_S16x448x64_S16x64x64_0_0_0⟩ (by sl_kernel_rfl)
    · exact readCov_tiled arg15 _ _ S16x64x64.size (by decide) _ ⟨gather_piece (rowWords c i t2) hw 6 (by decide) 384 rfl _ (row_entry c i h2 t2 6 (by decide) _) harg13 xk _ shapeCasts_S16x64x64_S16x64x64 inb_S16x448x64_S16x64x64_0_384_0, gather_piece (rowWords c i t2) hw 5 (by decide) 320 rfl _ (row_entry c i h2 t2 5 (by decide) _) harg13 xk _ shapeCasts_S16x64x64_S16x64x64 inb_S16x448x64_S16x64x64_0_320_0, gather_piece (rowWords c i t2) hw 4 (by decide) 256 rfl _ (row_entry c i h2 t2 4 (by decide) _) harg13 xk _ shapeCasts_S16x64x64_S16x64x64 inb_S16x448x64_S16x64x64_0_256_0, gather_piece (rowWords c i t2) hw 3 (by decide) 192 rfl _ (row_entry c i h2 t2 3 (by decide) _) harg13 xk _ shapeCasts_S16x64x64_S16x64x64 inb_S16x448x64_S16x64x64_0_192_0, gather_piece (rowWords c i t2) hw 2 (by decide) 128 rfl _ (row_entry c i h2 t2 2 (by decide) _) harg13 xk _ shapeCasts_S16x64x64_S16x64x64 inb_S16x448x64_S16x64x64_0_128_0, gather_piece (rowWords c i t2) hw 1 (by decide) 64 rfl _ (row_entry c i h2 t2 1 (by decide) _) harg13 xk _ shapeCasts_S16x64x64_S16x64x64 inb_S16x448x64_S16x64x64_0_64_0, gather_piece (rowWords c i t2) hw 0 (by decide) 0 rfl _ (row_entry c i h2 t2 0 (by decide) _) harg13 xk _ shapeCasts_S16x64x64_S16x64x64 inb_S16x448x64_S16x64x64_0_0_0⟩ (by sl_kernel_rfl)
    · exact congrArg t3 (funext fun a => Fin.ext (by
        match a with
        | ⟨0, _⟩ => exact row_word i h2))
  isplitl [H10]
  · iexists _; isplitr; rotate_left; · iexact H10
    ipureintro
    exact read_tiled arg15 f10 _ _ S16x64x64.size ⟨gather_piece (rowWords c i t2) hw 6 (by decide) 384 rfl _ (row_entry c i h2 t2 6 (by decide) _) harg13 xk _ shapeCasts_S16x64x64_S16x64x64 inb_S16x448x64_S16x64x64_0_384_0, gather_piece (rowWords c i t2) hw 5 (by decide) 320 rfl _ (row_entry c i h2 t2 5 (by decide) _) harg13 xk _ shapeCasts_S16x64x64_S16x64x64 inb_S16x448x64_S16x64x64_0_320_0, gather_piece (rowWords c i t2) hw 4 (by decide) 256 rfl _ (row_entry c i h2 t2 4 (by decide) _) harg13 xk _ shapeCasts_S16x64x64_S16x64x64 inb_S16x448x64_S16x64x64_0_256_0, gather_piece (rowWords c i t2) hw 3 (by decide) 192 rfl _ (row_entry c i h2 t2 3 (by decide) _) harg13 xk _ shapeCasts_S16x64x64_S16x64x64 inb_S16x448x64_S16x64x64_0_192_0, gather_piece (rowWords c i t2) hw 2 (by decide) 128 rfl _ (row_entry c i h2 t2 2 (by decide) _) harg13 xk _ shapeCasts_S16x64x64_S16x64x64 inb_S16x448x64_S16x64x64_0_128_0, gather_piece (rowWords c i t2) hw 1 (by decide) 64 rfl _ (row_entry c i h2 t2 1 (by decide) _) harg13 xk _ shapeCasts_S16x64x64_S16x64x64 inb_S16x448x64_S16x64x64_0_64_0, gather_piece (rowWords c i t2) hw 0 (by decide) 0 rfl _ (row_entry c i h2 t2 0 (by decide) _) harg13 xk _ shapeCasts_S16x64x64_S16x64x64 inb_S16x448x64_S16x64x64_0_0_0⟩ (by sl_kernel_rfl)
  · iexists _; isplitr; rotate_left; · iexact H11
    ipureintro
    exact read_tiled arg16 f11 _ _ S16x64x64.size ⟨gather_piece (rowWords c i t2) hw 6 (by decide) 384 rfl _ (row_entry c i h2 t2 6 (by decide) _) harg14 xv _ shapeCasts_S16x64x64_S16x64x64 inb_S16x448x64_S16x64x64_0_384_0, gather_piece (rowWords c i t2) hw 5 (by decide) 320 rfl _ (row_entry c i h2 t2 5 (by decide) _) harg14 xv _ shapeCasts_S16x64x64_S16x64x64 inb_S16x448x64_S16x64x64_0_320_0, gather_piece (rowWords c i t2) hw 4 (by decide) 256 rfl _ (row_entry c i h2 t2 4 (by decide) _) harg14 xv _ shapeCasts_S16x64x64_S16x64x64 inb_S16x448x64_S16x64x64_0_256_0, gather_piece (rowWords c i t2) hw 3 (by decide) 192 rfl _ (row_entry c i h2 t2 3 (by decide) _) harg14 xv _ shapeCasts_S16x64x64_S16x64x64 inb_S16x448x64_S16x64x64_0_192_0, gather_piece (rowWords c i t2) hw 2 (by decide) 128 rfl _ (row_entry c i h2 t2 2 (by decide) _) harg14 xv _ shapeCasts_S16x64x64_S16x64x64 inb_S16x448x64_S16x64x64_0_128_0, gather_piece (rowWords c i t2) hw 1 (by decide) 64 rfl _ (row_entry c i h2 t2 1 (by decide) _) harg14 xv _ shapeCasts_S16x64x64_S16x64x64 inb_S16x448x64_S16x64x64_0_64_0, gather_piece (rowWords c i t2) hw 0 (by decide) 0 rfl _ (row_entry c i h2 t2 0 (by decide) _) harg14 xv _ shapeCasts_S16x64x64_S16x64x64 inb_S16x448x64_S16x64x64_0_0_0⟩ (by sl_kernel_rfl)

end Cert.KernelIdeal.Attn
-- ==== Proof.KI.Entry.lean ====
module

public import proofs.«01_k».proof.Proof.KI.RunSparse
public import Idealize.ShloMosaic.Lib.StableHlo.RunRead

/-! What the launch finds: the buffers after the host operations, the two tables, the grid. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What core `c` finds in a buffer when the launch begins: the host operations before it have run. -/
abbrev V (c : Dev nD) (b : Ref sig .tc) : Buf (Elt F) ((c : Thread nD τ).loc b) := StableHlo.after hostOps0 (fun b => m (c, b)) b

/-- No host operation before the launch allocates. -/
theorem hostOps_fresh : (hostOps0 : List (HloOp τ sig (Elt F))).Forall fun op => op.fresh = ∅ := by
  simp only [List.Forall]; repeat' constructor

set_option maxHeartbeats 800000 in
/-- The program up to its launch: the host operations, leaving `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps_fresh main_chain

/-- The buffers the host operations write. -/
abbrev hostWrites : List (Ref sig .tc) :=
  [main_c, main_c_0, main_v0, main_cst, main_v1, main_v2, main_v3, main_v4, main_v5, main_v6, main_v7, main_v8, main_cst_1, main_v9, main_v10, main_v11, main_v12]

/-- A buffer no host operation writes is found as launched. -/
theorem V_kept (c : Dev nD) (r : Ref sig .tc) (hr : r ∉ hostWrites) : V m c r = m ((c : Thread nD τ).loc r) :=
  StableHlo.after_unwritten hostWrites rfl hr _

/-- The table of gathered blocks is found at its printed constants. -/
theorem V_idx (c : Dev nD) : V m c main_c = (fun i => lit0 (S32x7.rowMajor i) : Buf (Elt F) ((c : Thread nD τ).loc main_c)) := by
  refine (StableHlo.after_last_write (i := 0) hostWrites.tail rfl rfl (by decide) _).trans ?_
  rfl

/-- The table of counts is found at its printed constants. -/
theorem V_cnt (c : Dev nD) : V m c main_c_0 = (fun i => lit1 (S32.rowMajor i) : Buf (Elt F) ((c : Thread nD τ).loc main_c_0)) := by
  refine (StableHlo.after_last_write (i := 1) hostWrites.tail.tail rfl rfl (by decide) _).trans ?_
  rfl

/-- The tables' contents as the launch reads them. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The tables as the launch admits them: it asks nothing of them. -/
abbrev adm : (pcfg0 (F := F)).Adm := ⟨tbl m, trivial⟩

/-- The launch at these tables. -/
abbrev cfgM : Cfg sig Λ₀ := cfg0 (adm m)

/-- What the launch holds of the tables: half of each at its contents. -/
theorem PhiT_eq (c : Dev nD) :
    (Pipeline.ΦT pre0 (tbl m) c : sProp 𝕄) = iprop(tabPt c idxMem (tbl m 0) ∗ tabPt c cntMem (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Every word of the printed table of gathered blocks names one of the 32 blocks. -/
theorem lit0_lt : ∀ k : Fin 224, (lit0 k).toNat < 32 := by decide +kernel

theorem tbl_lt (p) : BitVec.toNat (w := 32) (tbl m 0 p) < 32 := by
  have h : tbl m 0 = (fun i => lit0 (S32x7.rowMajor i)) := V_idx m 0
  rw [h]; exact lit0_lt _

/-! ### Which case a grid point is in -/

/-- The grid as plain numbers: point `t` is batch `t / 33`, step `t % 33`. -/
theorem coord_step : ∀ t : Fin grid0.N, (grid0.coords t 1).val = t.val % 33 := by decide +kernel
theorem coord_batch : ∀ t : Fin grid0.N, (grid0.coords t 0).val = t.val / 33 := by decide +kernel

theorem isFirst : ∀ t : Fin grid0.N, firstPt (grid0.coords t) ↔ t.val % 33 = 0 := by decide +kernel
theorem isQuery : ∀ t : Fin grid0.N, k0_cond2 (grid0.coords t) = 1#1 ↔ 1 ≤ t.val % 33 := by decide +kernel
theorem isDense : ∀ t : Fin grid0.N, k0_cond3 (grid0.coords t) = 1#1 ↔ t.val % 33 = 1 := by decide +kernel
theorem isSparse : ∀ t : Fin grid0.N, k0_cond4 (grid0.coords t) = 1#1 ↔ 2 ≤ t.val % 33 := by decide +kernel

end Cert.KernelIdeal.Attn

end
-- ==== Proof.KI.Blocks.lean ====
module

public import proofs.«01_k».proof.Proof.KI.Entry
public import Idealize.ShloMosaic.Lib.Pipeline.ValueKit.Point

/-! The windows' blocks, read off the arrays the launch finds. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def iblk (c : Dev nD) (w : Fin (cfgM m).W) (t : Fin (cfgM m).N) : (spec0 w).block.Idx → Elt F (spec0 w).elt :=
  (((cfgM m).win w).blk t).view.read (Elt F) (V m c (Pipeline.arrRef spec0 w))

/-- The blocks' places, decided on the grid. -/
theorem place0 : ∀ t : Fin grid0.N, cc0_transform_0 (grid0.coords t) = ![t.val / 33, t.val % 33 - 1, 0] := by decide +kernel
theorem place1 : ∀ t : Fin grid0.N, cc0_transform_1 (grid0.coords t) = ![t.val / 33, 0, 0] := by decide +kernel
theorem place8 : ∀ t : Fin grid0.N, cc0_transform_8 (grid0.coords t) = ![t.val / 33, t.val % 33 - 1, 0] := by decide +kernel

theorem index0 (t : Fin (cfgM m).N) : ((cfgM m).win 0).index t = ![t.val / 33, t.val % 33 - 1, 0] := place0 t
theorem index1 (t : Fin (cfgM m).N) : ((cfgM m).win 1).index t = ![t.val / 33, 0, 0] := place1 t
theorem index8 (t : Fin (cfgM m).N) : ((cfgM m).win 8).index t = ![t.val / 33, t.val % 33 - 1, 0] := place8 t
theorem index2 (t : Fin (cfgM m).N) : ((cfgM m).win 2).index t = ![0, 0] := rfl
theorem index3 (t : Fin (cfgM m).N) : ((cfgM m).win 3).index t = ![0, 0] := rfl
theorem index4 (t : Fin (cfgM m).N) : ((cfgM m).win 4).index t = ![0, 0] := rfl
theorem index5 (t : Fin (cfgM m).N) : ((cfgM m).win 5).index t = ![0, 0] := rfl
theorem index6 (t : Fin (cfgM m).N) : ((cfgM m).win 6).index t = ![0, 0] := rfl
theorem index7 (t : Fin (cfgM m).N) : ((cfgM m).win 7).index t = ![0, 0] := rfl

theorem lt66 (t : Fin (cfgM m).N) : t.val < 66 := t.isLt

/-- The query window's block at point `t`: rows `64 (t % 33 - 1) …` of batch `t / 33`. -/
theorem iblk_from (c : Dev nD) (t : Fin (cfgM m).N) (y : S1x64x1024.Idx) :
    iblk m c 0 t y = V m c main_arg0 (ix3 (⟨t.val / 33, by have := lt66 m t; omega⟩ : Fin 2)
      (⟨64 * (t.val % 33 - 1) + (y 1).val, by have := (y 1).isLt; change (y 1).val < 64 at this; omega⟩ : Fin 2048) (y 2)) := by
  unfold iblk
  show V m c main_arg0 ((((cfgM m).win 0).blk t).view.emb y) = _
  refine congrArg _ ?_
  blk_ext [index0 m t]

/-- The key window's block at point `t`: all rows of batch `t / 33`. -/
theorem iblk_to (c : Dev nD) (t : Fin (cfgM m).N) (y : S1x2048x1024.Idx) :
    iblk m c 1 t y = V m c main_arg1 (ix3 (⟨t.val / 33, by have := lt66 m t; omega⟩ : Fin 2) (y 1) (y 2)) := by
  unfold iblk
  show V m c main_arg1 ((((cfgM m).win 1).blk t).view.emb y) = _
  refine congrArg _ ?_
  blk_ext [index1 m t]

/-- Window 2's block is its whole array. -/
theorem iblk_2 (c : Dev nD) (t : Fin (cfgM m).N) : iblk m c 2 t = V m c main_v3 := by
  funext y
  unfold iblk
  show V m c main_v3 ((((cfgM m).win 2).blk t).view.emb y) = _
  refine congrArg _ ?_
  blk_ext [index2 m t]

/-- Window 3's block is its whole array. -/
theorem iblk_3 (c : Dev nD) (t : Fin (cfgM m).N) : iblk m c 3 t = V m c main_v5 := by
  funext y
  unfold iblk
  show V m c main_v5 ((((cfgM m).win 3).blk t).view.emb y) = _
  refine congrArg _ ?_
  blk_ext [index3 m t]

/-- Window 4's block is its whole array. -/
theorem iblk_4 (c : Dev nD) (t : Fin (cfgM m).N) : iblk m c 4 t = V m c main_v7 := by
  funext y
  unfold iblk
  show V m c main_v7 ((((cfgM m).win 4).blk t).view.emb y) = _
  refine congrArg _ ?_
  blk_ext [index4 m t]

/-- Window 5's block is its whole array. -/
theorem iblk_5 (c : Dev nD) (t : Fin (cfgM m).N) : iblk m c 5 t = V m c main_v10 := by
  funext y
  unfold iblk
  show V m c main_v10 ((((cfgM m).win 5).blk t).view.emb y) = _
  refine congrArg _ ?_
  blk_ext [index5 m t]

/-- Window 6's block is its whole array. -/
theorem iblk_6 (c : Dev nD) (t : Fin (cfgM m).N) : iblk m c 6 t = V m c main_v11 := by
  funext y
  unfold iblk
  show V m c main_v11 ((((cfgM m).win 6).blk t).view.emb y) = _
  refine congrArg _ ?_
  blk_ext [index6 m t]

/-- Window 7's block is its whole array. -/
theorem iblk_7 (c : Dev nD) (t : Fin (cfgM m).N) : iblk m c 7 t = V m c main_v12 := by
  funext y
  unfold iblk
  show V m c main_v12 ((((cfgM m).win 7).blk t).view.emb y) = _
  refine congrArg _ ?_
  blk_ext [index7 m t]

/-- Two steps of one batch find the same keys' block. -/
theorem iblk_to_congr (c : Dev nD) (t t' : Fin (cfgM m).N) (h : t.val / 33 = t'.val / 33) : iblk m c 1 t = iblk m c 1 t' := by
  refine funext fun (y : S1x2048x1024.Idx) => ?_
  refine (iblk_to m c t y).trans ((congrArg (V m c main_arg1) ?_).trans (iblk_to m c t' y).symm)
  exact congrArg (fun a : Fin 2 => ix3 a (y 1) (y 2)) (Fin.ext h)

end Cert.KernelIdeal.Attn

end
-- ==== Proof.KI.Frame.lean ====
module

public import proofs.«01_k».proof.Proof.KI.Blocks

/-! The launch's data and the body at every point. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The keys a batch's points attend to, split into heads. -/
def keysAt (c : Dev nD) (t : Fin (cfgM m).N) : Vec F S16x2048x64 .bf16 :=
  splitHeads (k0_pay12 (iblk m c 1 t) (iblk m c 3 t) (iblk m c 6 t))

/-- The values a batch's points attend to, split into heads. -/
def valsAt (c : Dev nD) (t : Fin (cfgM m).N) : Vec F S16x2048x64 .bf16 :=
  splitHeads (k0_pay31 (k0_pay11 (iblk m c 1 t)) (iblk m c 4 t) (iblk m c 7 t))

/-- The query rows of a point, stacked by head. -/
def queryAt (c : Dev nD) (t : Fin (cfgM m).N) : Vec F S16x64x64 .bf16 :=
  k0_pay85 (iblk m c 0 t) (iblk m c 2 t) (iblk m c 5 t)

/-- The seven block numbers and the count of the point's query block. -/
def wordsAt (c : Dev nD) (t : Fin (cfgM m).N) : Fin 7 → BitVec 32 := rowWords c (grid0.coords t) (tbl m 0)
def countAt (c : Dev nD) (t : Fin (cfgM m).N) : BitVec 32 := rowCount c (grid0.coords t) (tbl m 1)

/-- What a point that attends to every key leaves. -/
def denseOut (c : Dev nD) (t : Fin (cfgM m).N) : Vec F S1x64x1024 .f32 :=
  joinHeads (k0_pay43 (queryAt m c t) (keysAt m c t) (valsAt m c t))

/-- What a point that attends to its gathered blocks leaves. -/
def sparseOut (c : Dev nD) (t : Fin (cfgM m).N) : Vec F S1x64x1024 .f32 :=
  joinHeads (k0_pay71 (gatherRows (wordsAt m c t) (valsAt m c t))
    (k0_pay69 (queryAt m c t) (gatherRows (wordsAt m c t) (keysAt m c t)) (countAt m c t))
    (k0_pay70 (queryAt m c t) (gatherRows (wordsAt m c t) (keysAt m c t)) (countAt m c t)))

/-- What a point leaves in the output's buffer. -/
def outAt (c : Dev nD) (t : Fin (cfgM m).N) : Vec F S1x64x1024 .f32 :=
  if t.val % 33 = 1 then denseOut m c t else sparseOut m c t

theorem kv_congr (c : Dev nD) (t t' : Fin (cfgM m).N) (h : t.val / 33 = t'.val / 33) :
    keysAt m c t = keysAt m c t' ∧ valsAt m c t = valsAt m c t' := by
  have e := iblk_to_congr m c t t' h
  have e3 := (iblk_3 m c t).trans (iblk_3 m c t').symm
  have e4 := (iblk_4 m c t).trans (iblk_4 m c t').symm
  have e6 := (iblk_6 m c t).trans (iblk_6 m c t').symm
  have e7 := (iblk_7 m c t).trans (iblk_7 m c t').symm
  unfold keysAt valsAt
  constructor
  · exact congrArg splitHeads (congr (congr (congrArg k0_pay12 e) e3) e6)
  · exact congrArg splitHeads (congr (congr (congrArg k0_pay31 (congrArg k0_pay11 e)) e4) e7)

/-! ### The invariant -/

abbrev sc0 : Memref sig .tc .vmem S16x2048x64 .bf16 := Memref.whole cc0_scratch0
abbrev sc1 : Memref sig .tc .vmem S16x2048x64 .bf16 := Memref.whole cc0_scratch1
abbrev sc2 : Memref sig .tc .vmem S16x448x64 .bf16 := Memref.whole cc0_scratch2
abbrev sc3 : Memref sig .tc .vmem S16x448x64 .bf16 := Memref.whole cc0_scratch3

/-- What the launch holds of the scratches and the generator's register. -/
theorem PhiA_eq (c : Dev nD) : (Pipeline.ΦA spec0 c : sProp 𝕄)
    = iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA
  rw [scopedRest0_eq]
  simp only [sc0, sc1, sc2, sc3, owns_whole]
  try rfl

/-- Before the first point what the launch holds; after a point the first two scratches hold that point's keys and values. -/
def PhiS (c : Dev nD) : (n : ℕ) → n ≤ (cfgM m).N → sProp 𝕄
  | 0, _ => iprop(Pipeline.ΦA spec0 c ∗ Pipeline.ΦT pre0 (tbl m) c)
  | n + 1, hn => iprop(iprop(iprop(owns (c : Thread nD τ) sc0 fullShare (keysAt m c ⟨n, hn⟩) ∗ owns (c : Thread nD τ) sc1 fullShare (valsAt m c ⟨n, hn⟩)
      ∗ (∃ d, owns (c : Thread nD τ) sc2 fullShare d) ∗ (∃ d, owns (c : Thread nD τ) sc3 fullShare d)) ∗ (∃ r, prngReg c r))
      ∗ Pipeline.ΦT pre0 (tbl m) c)

theorem PhiS_succ (c : Dev nD) (n : ℕ) (hn : n < (cfgM m).N) :
    PhiS m c (n + 1) hn = iprop(iprop(iprop(owns (c : Thread nD τ) sc0 fullShare (keysAt m c ⟨n, hn⟩) ∗ owns (c : Thread nD τ) sc1 fullShare (valsAt m c ⟨n, hn⟩)
      ∗ (∃ d, owns (c : Thread nD τ) sc2 fullShare d) ∗ (∃ d, owns (c : Thread nD τ) sc3 fullShare d)) ∗ (∃ r, prngReg c r))
      ∗ Pipeline.ΦT pre0 (tbl m) c) := rfl

/-- Whatever the scratches hold, the invariant has them. -/
theorem PhiS_any (c : Dev nD) (n : ℕ) (h : n ≤ (cfgM m).N) :
    PhiS m c n h ⊢ iprop(Pipeline.ΦA spec0 c ∗ Pipeline.ΦT pre0 (tbl m) c) := by
  cases n with
  | zero => exact .rfl
  | succ n =>
    rw [PhiS_succ, PhiA_eq]
    iintro ⟨⟨⟨HS0, HS1, HS2, HS3⟩, Hg⟩, HT⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    iexact HT

/-- Before a step of a batch that is not its first, the scratches hold the batch's keys and values. -/
theorem PhiS_step (c : Dev nD) (t : Fin (cfgM m).N) (h : t.val % 33 ≠ 0) :
    PhiS m c t.val (Nat.le_of_lt t.isLt) = iprop(iprop(iprop(owns (c : Thread nD τ) sc0 fullShare (keysAt m c t) ∗ owns (c : Thread nD τ) sc1 fullShare (valsAt m c t)
      ∗ (∃ d, owns (c : Thread nD τ) sc2 fullShare d) ∗ (∃ d, owns (c : Thread nD τ) sc3 fullShare d)) ∗ (∃ r, prngReg c r))
      ∗ Pipeline.ΦT pre0 (tbl m) c) := by
  obtain ⟨n, hn⟩ := t
  cases n with
  | zero => exact absurd rfl h
  | succ n =>
    obtain ⟨e, e'⟩ := kv_congr m c ⟨n + 1, hn⟩ ⟨n, Nat.lt_of_succ_lt hn⟩ (by
      show (n + 1) / 33 = n / 33
      change (n + 1) % 33 ≠ 0 at h
      omega)
    rw [e, e']
    rfl

/-! ### The launch's data -/

/-- The launch's data: the arrays as found; after a point each input's buffer at its block, the output's at `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]

theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t

theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = iblk m c 5 t := rfl
theorem after_6 (c : Dev nD) (t : Fin (cfgM m).N) : (dats m 0 c).after 6 t = iblk m c 6 t := rfl
theorem after_7 (c : Dev nD) (t : Fin (cfgM m).N) : (dats m 0 c).after 7 t = iblk m c 7 t := rfl
theorem after_8 (c : Dev nD) (t : Fin (cfgM m).N) : (dats m 0 c).after 8 t = outAt m c t := rfl

theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin (cfgM m).N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ### The output's buffer: left alone at a batch's first step, stored at the others -/

theorem idle_dec : ∀ t : Fin grid0.N, t.val % 33 = 0 → idle0 8 (grid0.coords t) = true := by decide +kernel
theorem live_dec : ∀ t : Fin grid0.N, t.val % 33 ≠ 0 → idle0 8 (grid0.coords t) = false := by decide +kernel
theorem idle_first (t : Fin (cfgM m).N) (h : t.val % 33 = 0) : (cfgM m).idle 8 ((cfgM m).grid.coords t) = true := idle_dec t h
theorem live_step (t : Fin (cfgM m).N) (h : t.val % 33 ≠ 0) : (cfgM m).idle 8 ((cfgM m).grid.coords t) = false := live_dec t h

/-- The output's block does not move after a batch's first step, so nothing is written back there. -/
theorem noFlush_first (t : Fin (cfgM m).N) (h : t.val % 33 = 0) : ((cfgM m).win 8).flush t = false := by
  have hlt := lt66 m t
  have e : ∀ h' : t.val + 1 < (cfgM m).N, ((cfgM m).win 8).index ⟨t.val + 1, h'⟩ = ((cfgM m).win 8).index t := fun h' => by
    rw [index8, index8]
    have h1 : (t.val + 1) / 33 = t.val / 33 := by omega
    have h2 : (t.val + 1) % 33 - 1 = t.val % 33 - 1 := by omega
    show ![(t.val + 1) / 33, (t.val + 1) % 33 - 1, 0] = _
    rw [h1, h2]
  have hl : t.val + 1 ≠ (cfgM m).N := by
    show t.val + 1 ≠ 66
    omega
  unfold Pipeline.Window.flush
  simp [hl, e]

abbrev ms0 (t : Fin (cfgM m).N) : Memref sig .tc .vmem S1x64x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2048x1024 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1024x1024 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1024x1024 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1024x1024 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1024 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x1024 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x1024 .f32 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x64x1024 .f32 := spec0_8.stage ((cfgM m).slots t 8)
abbrev hs8 (t : Fin (cfgM m).N) : (ms8 m t).IsWhole := hstage0_8 (((cfgM m).slots t 8).cast nbuf0_8)

/-- The body at point `t`. -/
abbrev bodyAt (t : Fin (cfgM m).N) := cc0__fused_kernel (F := F) (grid0.coords t) idxMem (Memref.isWhole_whole _) cntMem (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) sc0 (Memref.isWhole_whole _) sc1 (Memref.isWhole_whole _) sc2 (Memref.isWhole_whole _) sc3 (Memref.isWhole_whole _)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin (cfgM m).N) :
    (dats m 0 c).leavesExact 0 t = owns (c : Thread nD τ) (ms0 m t) fullShare (iblk m c 0 t) := by
  rw [show (dats m 0 c).leavesExact 0 t = owns (c : Thread nD τ) (ms0 m t) fullShare ((dats m 0 c).after 0 t) from by
    unfold Dat.leavesExact; rw [show (cfgM m).idle 0 ((cfgM m).grid.coords t) = false from rfl]; rfl, after_0]
theorem leaves_1 (c : Dev nD) (t : Fin (cfgM m).N) :
    (dats m 0 c).leavesExact 1 t = owns (c : Thread nD τ) (ms1 m t) fullShare (iblk m c 1 t) := by
  rw [show (dats m 0 c).leavesExact 1 t = owns (c : Thread nD τ) (ms1 m t) fullShare ((dats m 0 c).after 1 t) from by
    unfold Dat.leavesExact; rw [show (cfgM m).idle 1 ((cfgM m).grid.coords t) = false from rfl]; rfl, after_1]
theorem leaves_2 (c : Dev nD) (t : Fin (cfgM m).N) :
    (dats m 0 c).leavesExact 2 t = owns (c : Thread nD τ) (ms2 m t) fullShare (iblk m c 2 t) := by
  rw [show (dats m 0 c).leavesExact 2 t = owns (c : Thread nD τ) (ms2 m t) fullShare ((dats m 0 c).after 2 t) from by
    unfold Dat.leavesExact; rw [show (cfgM m).idle 2 ((cfgM m).grid.coords t) = false from rfl]; rfl, after_2]
theorem leaves_3 (c : Dev nD) (t : Fin (cfgM m).N) :
    (dats m 0 c).leavesExact 3 t = owns (c : Thread nD τ) (ms3 m t) fullShare (iblk m c 3 t) := by
  rw [show (dats m 0 c).leavesExact 3 t = owns (c : Thread nD τ) (ms3 m t) fullShare ((dats m 0 c).after 3 t) from by
    unfold Dat.leavesExact; rw [show (cfgM m).idle 3 ((cfgM m).grid.coords t) = false from rfl]; rfl, after_3]
theorem leaves_4 (c : Dev nD) (t : Fin (cfgM m).N) :
    (dats m 0 c).leavesExact 4 t = owns (c : Thread nD τ) (ms4 m t) fullShare (iblk m c 4 t) := by
  rw [show (dats m 0 c).leavesExact 4 t = owns (c : Thread nD τ) (ms4 m t) fullShare ((dats m 0 c).after 4 t) from by
    unfold Dat.leavesExact; rw [show (cfgM m).idle 4 ((cfgM m).grid.coords t) = false from rfl]; rfl, after_4]
theorem leaves_5 (c : Dev nD) (t : Fin (cfgM m).N) :
    (dats m 0 c).leavesExact 5 t = owns (c : Thread nD τ) (ms5 m t) fullShare (iblk m c 5 t) := by
  rw [show (dats m 0 c).leavesExact 5 t = owns (c : Thread nD τ) (ms5 m t) fullShare ((dats m 0 c).after 5 t) from by
    unfold Dat.leavesExact; rw [show (cfgM m).idle 5 ((cfgM m).grid.coords t) = false from rfl]; rfl, after_5]
theorem leaves_6 (c : Dev nD) (t : Fin (cfgM m).N) :
    (dats m 0 c).leavesExact 6 t = owns (c : Thread nD τ) (ms6 m t) fullShare (iblk m c 6 t) := by
  rw [show (dats m 0 c).leavesExact 6 t = owns (c : Thread nD τ) (ms6 m t) fullShare ((dats m 0 c).after 6 t) from by
    unfold Dat.leavesExact; rw [show (cfgM m).idle 6 ((cfgM m).grid.coords t) = false from rfl]; rfl, after_6]
theorem leaves_7 (c : Dev nD) (t : Fin (cfgM m).N) :
    (dats m 0 c).leavesExact 7 t = owns (c : Thread nD τ) (ms7 m t) fullShare (iblk m c 7 t) := by
  rw [show (dats m 0 c).leavesExact 7 t = owns (c : Thread nD τ) (ms7 m t) fullShare ((dats m 0 c).after 7 t) from by
    unfold Dat.leavesExact; rw [show (cfgM m).idle 7 ((cfgM m).grid.coords t) = false from rfl]; rfl, after_7]
theorem leaves_8 (c : Dev nD) (t : Fin (cfgM m).N) (h : t.val % 33 ≠ 0) :
    (dats m 0 c).leavesExact 8 t = owns (c : Thread nD τ) (ms8 m t) fullShare (outAt m c t) := by
  rw [show (dats m 0 c).leavesExact 8 t = owns (c : Thread nD τ) (ms8 m t) fullShare ((dats m 0 c).after 8 t) from by
    unfold Dat.leavesExact; rw [live_step m t h]; rfl, after_8]

set_option maxHeartbeats 4000000 in
/-- The body at a batch's first step: it computes the batch's keys and values. -/
theorem sound_first (c : Dev nD) (t : Fin (cfgM m).N) (h0 : t.val % 33 = 0) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7]
  rw [leaves_0 m c t, leaves_1 m c t, leaves_2 m c t, leaves_3 m c t, leaves_4 m c t, leaves_5 m c t, leaves_6 m c t, leaves_7 m c t]
  rw [show (dats m 0 c).owesAt () t.succ = (dats m 0 c).owesAt () t.castSucc from rfl,
    show (dats m 0 c).Φ t.succ = PhiS m c (t.val + 1) t.isLt from rfl, PhiS_succ]
  rw [Dat.leavesExact_idle (dats m 0 c) 8 t (idle_first m t h0) (noFlush_first m t h0), PhiS_castSucc m c t]
  refine (sep_mono_left (PhiS_any m c t.val (Nat.le_of_lt t.isLt))).trans ?_
  rw [PhiA_eq]
  iintro ⟨⟨⟨⟨HS0, HS1, HS2, HS3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ _ _ _ _ _ _ _ _ _ _  ((isFirst t).mpr h0) (fun h => by have := (isQuery t).mp h; omega)
    (iblk m c 1 t) (iblk m c 3 t) (iblk m c 4 t) (iblk m c 6 t) (iblk m c 7 t) Set.univ _)
  isplitl [H1]; · iexact H1
  isplitl [H3]; · iexact H3
  isplitl [H4]; · iexact H4
  isplitl [H6]; · iexact H6
  isplitl [H7]; · iexact H7
  isplitl [HS0]; · iexact HS0
  isplitl [HS1]; · iexact HS1
  iintro ⟨H1, H3, H4, H6, H7, HS0, HS1⟩
  isplitl [HS0 HS1 HS2 HS3 Hg HT]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4000000 in
/-- The body at a batch's second step: the first query block attends to every key. -/
theorem sound_dense (c : Dev nD) (t : Fin (cfgM m).N) (h1 : t.val % 33 = 1) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7]
  rw [leaves_0 m c t, leaves_1 m c t, leaves_2 m c t, leaves_3 m c t, leaves_4 m c t, leaves_5 m c t, leaves_6 m c t, leaves_7 m c t]
  rw [show (dats m 0 c).owesAt () t.succ = (dats m 0 c).owesAt () t.castSucc from rfl,
    show (dats m 0 c).Φ t.succ = PhiS m c (t.val + 1) t.isLt from rfl, PhiS_succ]
  rw [leaves_8 m c t (by omega), PhiS_castSucc m c t, PhiS_step m c t (by omega)]
  rw [show outAt m c t = denseOut m c t from if_pos h1]
  iintro ⟨⟨⟨⟨HS0, HS1, HS2, HS3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_dense c (grid0.coords t) _ _ _ _ _ _ _ _ _ _ _ _ _ _ _ _ _ _ _ _ _ _ _ _ _ _ _ _ _ _  (fun h => by have := (isFirst t).mp h; omega) ((isQuery t).mpr (by omega)) ((isDense t).mpr h1) (fun h => by have := (isSparse t).mp h; omega)
    (iblk m c 0 t) (iblk m c 2 t) (iblk m c 5 t) (keysAt m c t) (valsAt m c t) Set.univ _)
  isplitl [H0]; · iexact H0
  isplitl [H2]; · iexact H2
  isplitl [H5]; · iexact H5
  isplitl [HS0]; · iexact HS0
  isplitl [HS1]; · iexact HS1
  isplitl [H8]; · iexists _; iexact H8
  iintro ⟨H0, H2, H5, HS0, HS1, H8⟩
  isplitl [HS0 HS1 HS2 HS3 Hg HT]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at the other steps: the query block attends to its gathered blocks. -/
theorem sound_sparse (c : Dev nD) (t : Fin (cfgM m).N) (h2 : 2 ≤ t.val % 33) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7]
  rw [leaves_0 m c t, leaves_1 m c t, leaves_2 m c t, leaves_3 m c t, leaves_4 m c t, leaves_5 m c t, leaves_6 m c t, leaves_7 m c t]
  rw [show (dats m 0 c).owesAt () t.succ = (dats m 0 c).owesAt () t.castSucc from rfl,
    show (dats m 0 c).Φ t.succ = PhiS m c (t.val + 1) t.isLt from rfl, PhiS_succ]
  rw [leaves_8 m c t (by omega), PhiS_castSucc m c t, PhiS_step m c t (by omega), PhiT_eq]
  rw [show outAt m c t = sparseOut m c t from if_neg (by omega)]
  iintro ⟨⟨⟨⟨HS0, HS1, ⟨%e2, HS2⟩, ⟨%e3, HS3⟩⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_sparse c (grid0.coords t) _ _ _ _ _ _ _ _ _ _ _ _ _ _ _ _ _ _ _ _ _ _ _ _ _ _  (fun h => by have := (isFirst t).mp h; omega) ((isQuery t).mpr (by omega)) (fun h => by have := (isDense t).mp h; omega) ((isSparse t).mpr h2)
    (iblk m c 0 t) (iblk m c 2 t) (iblk m c 5 t) (keysAt m c t) (valsAt m c t) (tbl m 0) (tbl m 1) (tbl_lt m) Set.univ _)
  isplitl [HT0]; · iexact HT0
  isplitl [HT1]; · iexact HT1
  isplitl [H0]; · iexact H0
  isplitl [H2]; · iexact H2
  isplitl [H5]; · iexact H5
  isplitl [HS0]; · iexact HS0
  isplitl [HS1]; · iexact HS1
  isplitl [H8]; · iexists _; iexact H8
  isplitl [HS2]; · iexists _; iexact HS2
  isplitl [HS3]; · iexists _; iexact HS3
  iintro ⟨HT0, HT1, H0, H2, H5, HS0, HS1, H8, HS2, HS3⟩
  isplitl [HS0 HS1 HS2 HS3 Hg HT0 HT1]
  · isplitl [HS0 HS1 HS2 HS3 Hg]
    · isplitl [HS0 HS1 HS2 HS3]
      · isplitl [HS0]
        · iexact HS0
        isplitl [HS1]
        · iexact HS1
        isplitl [HS2]
        · iexists _; iexact HS2
        iexists _; iexact HS3
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin (cfgM m).N) :
    bodyPre m c t ⊢ wp frame (wpE (defs₀ (F := F)) Variants.none c none) Set.univ (bodyAt m t) (fun _ => bodyPost m c t) := by
  by_cases h0 : t.val % 33 = 0
  · exact sound_first m c t h0
  by_cases h1 : t.val % 33 = 1
  · exact sound_dense m c t h1
  exact sound_sparse m c t (by omega)

theorem defs₀_row (t : Fin (cfgM m).N) :
    defs₀ (F := F) .tc (cfgM m).body ((cfgM m).bodyArgs t ((cfgM m).slots t)) = bodyAt m t := by
  unfold defs₀; rw [Defs.onTc_tc]

/-- Every point of the launch keeps its data. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Attn

end
-- ==== Proof.KI.Run.lean ====
module

public import proofs.«01_k».proof.Proof.KI.Frame

/-! The program's run. -/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tables of the program's one launch. -/
abbrev adms : (p : Fin 1) → (pcfgs (F := F) p).Adm := fun _ => adm m

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl]
  exact .rfl

theorem hout (c : Dev nD) : (dats m 0 c).Φ (Fin.last (cfgM m).N) ⊢ Pipeline.ΦA spec0 c := by
  rw [show (dats m 0 c).Φ (Fin.last (cfgM m).N) = PhiS m c (cfgM m).N (Nat.le_refl _) from rfl]
  refine (PhiS_any m c _ _).trans ?_
  iintro ⟨H, -⟩
  iexact H

/-- The program runs: every array ends as the launch's data say, every other buffer as the launch found it, the counters at zero. -/
theorem run_main : θ_run (defs (F := F)) (onTc (τ := τ) (main (F := F))) (s₀ m ρ)
    (fun r => Pipeline.FramePost (Pipeline.pin pcfgs (adms m)) (dats m) 0 (V m) r ∧ r.2.sem = fun _ => 0) :=
  Pipeline.θ_run_frameP_track pcfgs (adms m) (dats m) 0 launch0 defs₀ Variants.none m ρ main
    (fun c => (body_obligation m c).loose) (fun c => (dats m 0 c).share_full fun _ => rfl) (fun _ _ => rfl) (V m)
    (hmain m Variants.none) (fun c w => A_eq m c w) (fun c k => V_pre m c k) (hin m) (hout m) (Q' := _)

/-- What a run leaves: the arguments unchanged, the result at the launch's data. -/
theorem run_post (r : PUnit × MemSt nD τ sig (Elt F)) (h : Pipeline.FramePost (Pipeline.pin pcfgs (adms m)) (dats m) 0 (V m) r) (c : Dev nD) :
    r.2.mem ((c.tc : Thread nD τ).loc main_v13) = (dats m 0 c).arrAt 8 (cfgM m).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine ⟨(h c).1 8, ?_, ?_, ?_, ?_, ?_, ?_, ?_, ?_⟩
  · exact ((h c).1 0).trans (((dats m 0 c).arrAt_in 0 rfl _).trans ((A_eq m c 0).trans (V_kept m c main_arg0 (by decide))))
  · exact ((h c).1 1).trans (((dats m 0 c).arrAt_in 1 rfl _).trans ((A_eq m c 1).trans (V_kept m c main_arg1 (by decide))))
  · exact ((h c).2 main_arg2 (Pipeline.mem_restRefs_of main_arg2 (by decide) (show ∀ w : Fin 9, (spec0 w).arr.view.ref ≠ main_arg2 from by decide))).trans (V_kept m c main_arg2 (by decide))
  · exact ((h c).2 main_arg3 (Pipeline.mem_restRefs_of main_arg3 (by decide) (show ∀ w : Fin 9, (spec0 w).arr.view.ref ≠ main_arg3 from by decide))).trans (V_kept m c main_arg3 (by decide))
  · exact ((h c).2 main_arg4 (Pipeline.mem_restRefs_of main_arg4 (by decide) (show ∀ w : Fin 9, (spec0 w).arr.view.ref ≠ main_arg4 from by decide))).trans (V_kept m c main_arg4 (by decide))
  · exact ((h c).2 main_arg5 (Pipeline.mem_restRefs_of main_arg5 (by decide) (show ∀ w : Fin 9, (spec0 w).arr.view.ref ≠ main_arg5 from by decide))).trans (V_kept m c main_arg5 (by decide))
  · exact ((h c).2 main_arg6 (Pipeline.mem_restRefs_of main_arg6 (by decide) (show ∀ w : Fin 9, (spec0 w).arr.view.ref ≠ main_arg6 from by decide))).trans (V_kept m c main_arg6 (by decide))
  · exact ((h c).2 main_arg7 (Pipeline.mem_restRefs_of main_arg7 (by decide) (show ∀ w : Fin 9, (spec0 w).arr.view.ref ≠ main_arg7 from by decide))).trans (V_kept m c main_arg7 (by decide))

end Cert.KernelIdeal.Attn

end
-- ==== Proof.Val.Maths.lean ====
module

public import Idealize.ShloMosaic.PureOps.Ideal
public import Idealize.ShloMosaic.PureOps.Ideal.Laws

@[expose] public section

noncomputable section

/-! Attention with one row of scores, over the extended reals: the division by the total weight may be done before or
    after the sum over the keys, keys of score minus infinity may be left out, and a scale may be moved into a factor. -/

namespace Cert.Attention

open Idealize.ShloMosaic

/-- An extended real that is a real. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type*} (t : Finset ι) (f : ι → EReal) (h : ∀ i, IsReal (f i)) : IsReal (∑ i ∈ t, f i) := by
  classical
  induction t using Finset.induction_on with
  | empty => exact ⟨0, by simp⟩
  | insert a t ha ih => rw [Finset.sum_insert ha]; exact (h a).add ih

theorem IsReal.ne_bot {x : EReal} : IsReal x → x ≠ ⊥
  | ⟨a, ha⟩ => ha ▸ EReal.coe_ne_bot a

theorem isReal_of {x : EReal} (h₁ : x ≠ ⊤) (h₂ : x ≠ ⊥) : IsReal x := ⟨x.toReal, (EReal.coe_toReal h₁ h₂).symm⟩

/-- A nonnegative real factor goes into a sum. -/
theorem sum_mul_real {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, EReal.right_distrib_of_nonneg_of_ne_top (by exact_mod_cast hc) (EReal.coe_ne_top c), ih]

theorem add_mul_real (x y : EReal) (c : ℝ) (hc : 0 ≤ c) : (x + y) * (c : EReal) = x * (c : EReal) + y * (c : EReal) :=
  EReal.right_distrib_of_nonneg_of_ne_top (by exact_mod_cast hc) (EReal.coe_ne_top c) x y

section Row

variable {J : Type} [Fintype J]

/-- The largest score of the row. -/
def top (s : J → EReal) : EReal := (Finset.univ : Finset J).fold max ⊥ s

/-- The weight of a key before it is normalized. -/
def wt (s : J → EReal) (j : J) : EReal := Ideal.exp (s j - top s)

/-- The total weight of the row. -/
def tot (s : J → EReal) : EReal := ∑ j, wt s j

/-- The weighted sum of the values, divided by the total weight at the end. -/
def late (s v : J → EReal) : EReal := Ideal.div (∑ j, wt s j * v j) (tot s)

/-- The sum of the values with each weight divided by the total weight. -/
def early (s v : J → EReal) : EReal := ∑ j, v j * Ideal.div (wt s j) (tot s)

theorem le_top (s : J → EReal) (j : J) : s j ≤ top s :=
  (Finset.le_fold_max (s j)).2 (.inr ⟨j, Finset.mem_univ j, le_rfl⟩)

theorem top_le (s : J → EReal) (x : EReal) (h : ∀ j, s j ≤ x) : top s ≤ x :=
  (Finset.fold_max_le x).2 ⟨bot_le, fun j _ => h j⟩

theorem wt_bot (s : J → EReal) (j : J) (h : s j = ⊥) : wt s j = 0 := by
  unfold wt
  rw [h, EReal.bot_sub]
  rfl

theorem top_real (s : J → EReal) (h : ∀ j, s j = ⊥ ∨ IsReal (s j)) (he : ∃ j, IsReal (s j)) : IsReal (top s) := by
  obtain ⟨j0, h0⟩ := he
  refine isReal_of (fun e => ?_) (fun e => h0.ne_bot (le_bot_iff.1 (e ▸ le_top s j0)))
  have : (⊤ : EReal) ≤ (Finset.univ : Finset J).fold max ⊥ s := e.ge
  rcases (Finset.le_fold_max _).1 this with h' | ⟨j, _, h'⟩
  · exact absurd h' (by simp)
  · rcases h j with hj | ⟨r, hj⟩ <;> rw [hj] at h'
    · exact absurd h' (by simp)
    · exact absurd h' (by simp)

theorem wt_real (s : J → EReal) (h : ∀ j, s j = ⊥ ∨ IsReal (s j)) (he : ∃ j, IsReal (s j)) (j : J) :
    ∃ r : ℝ, 0 ≤ r ∧ wt s j = (r : EReal) ∧ (IsReal (s j) → 0 < r) := by
  obtain ⟨M, hM⟩ := top_real s h he
  rcases h j with hj | ⟨a, hj⟩
  · exact ⟨0, le_rfl, wt_bot s j hj, fun hr => absurd hj hr.ne_bot⟩
  · refine ⟨Real.exp (a - M), (Real.exp_pos _).le, ?_, fun _ => Real.exp_pos _⟩
    unfold wt
    rw [hj, hM, ← EReal.coe_sub]
    rfl

theorem sum_coe {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem tot_real (s : J → EReal) (h : ∀ j, s j = ⊥ ∨ IsReal (s j)) (he : ∃ j, IsReal (s j)) :
    ∃ z : ℝ, 0 < z ∧ tot s = (z : EReal) := by
  choose r h0 hr hp using wt_real s h he
  obtain ⟨j0, hj0⟩ := he
  refine ⟨∑ j, r j, Finset.sum_pos' (fun j _ => h0 j) ⟨j0, Finset.mem_univ _, hp j0 hj0⟩, ?_⟩
  unfold tot
  rw [← sum_coe]
  exact Finset.sum_congr rfl fun j _ => hr j

/-- Dividing at the end is dividing every weight, when every score is real or minus infinity and one is real. -/
theorem late_eq_early (s v : J → EReal) (h : ∀ j, s j = ⊥ ∨ IsReal (s j)) (he : ∃ j, IsReal (s j)) : late s v = early s v := by
  obtain ⟨z, hz, e⟩ := tot_real s h he
  unfold late early
  rw [e, Ideal.div_coe hz.ne', sum_mul_real _ _ _ (one_div_pos.2 hz).le]
  refine Finset.sum_congr rfl fun j _ => ?_
  rw [Ideal.div_coe hz.ne', mul_comm (wt s j) (v j), mul_assoc]

end Row

/-- Keys whose score is minus infinity may be left out, and the others may be listed in any order. -/
theorem late_gather {J K : Type} [Fintype J] [Fintype K] (φ : J → K) (A : J → Prop) (s' v' : J → EReal) (s v : K → EReal)
    (hs : ∀ j, A j → s' j = s (φ j)) (hn : ∀ j, ¬ A j → s' j = ⊥) (hi : ∀ j j', A j → A j' → φ j = φ j' → j = j')
    (hk : ∀ k, s k ≠ ⊥ → ∃ j, A j ∧ φ j = k) (hv : ∀ j, A j → v' j = v (φ j)) : late s' v' = late s v := by
  classical
  have ht : top s' = top s := by
    refine le_antisymm (top_le _ _ fun j => ?_) (top_le _ _ fun k => ?_)
    · by_cases a : A j
      · rw [hs j a]; exact le_top s _
      · rw [hn j a]; exact bot_le
    · by_cases b : s k = ⊥
      · rw [b]; exact bot_le
      · obtain ⟨j, a, e⟩ := hk k b
        rw [← e, ← hs j a]; exact le_top s' j
  have hw : ∀ j, A j → wt s' j = wt s (φ j) := fun j a => by unfold wt; rw [hs j a, ht]
  have key : ∀ (f : J → EReal) (g : K → EReal), (∀ j, A j → f j = g (φ j)) → (∀ j, ¬ A j → f j = 0) →
      (∀ k, s k = ⊥ → g k = 0) → ∑ j, f j = ∑ k, g k := fun f g h1 h2 h3 => by
    rw [← Finset.sum_filter_of_ne (p := A) fun j _ hj => by by_contra a; exact hj (h2 j a)]
    refine Finset.sum_of_injOn φ (fun j hj j' hj' e => hi j j' (by simpa using hj) (by simpa using hj') e) (fun _ _ => by simp)
      (fun k _ hk' => h3 k ?_) fun j hj => h1 j (by simpa using hj)
    by_contra b
    obtain ⟨j, a, e⟩ := hk k b
    exact hk' ⟨j, by simpa using a, e⟩
  unfold late tot
  rw [key (fun j => wt s' j * v' j) (fun k => wt s k * v k) (fun j a => by rw [hw j a, hv j a])
      (fun j a => by rw [wt_bot s' j (hn j a), zero_mul]) (fun k b => by rw [wt_bot s k b, zero_mul]),
    key (wt s') (wt s) hw (fun j a => wt_bot s' j (hn j a)) (fun k b => wt_bot s k b)]

end Cert.Attention

end
-- ==== Proof.Val.Reference.lean ====
module

public import proofs.«01_k».proof.Proof.Gen.ReferenceIdeal.Run
public import proofs.«01_k».proof.Proof.Val.Maths
public import Idealize.ShloMosaic.Lib.Pipeline.ValueKit.Point

@[expose] public section

set_option maxRecDepth 16384

noncomputable section

/-! The reference's result, element by element over the extended reals. -/

namespace Cert.ReferenceIdeal.Val

open Idealize.ShloMosaic Cert.ReferenceIdeal Cert.ReferenceIdeal.Gen Cert.ReferenceIdeal.Facts Cert.Attention

variable {F : FTy → Type} [FloatOps F]

theorem neg_inf : Ideal.ofBits .f32 4286578688#32 = ⊥ := by simp [Ideal.ofBits, Ideal.ieee]
theorem eighth : Ideal.ofBits .f32 1040187392#32 = ((1 / 8 : ℝ) : EReal) := by
  simp [Ideal.ofBits, Ideal.ieee]
  rw [← EReal.coe_mul]
  norm_num

/-- A projection of a sequence: `x · w + b`, the columns in heads. -/
def proj (x : FVec F S2x2048x1024 .f32) (w : FVec F S1024x16x64 .f32) (b : FVec F S16x64 .f32) : FVec F S2x2048x16x64 .f32 :=
  addf (Host.dotGeneral dot_S2x2048x1024_S1024x16x64_S2x2048x16x64_2_0_01_12_n_n none x w) (broadcastInDim S2x2048x16x64 ![0, 1, 2, 3] bcast_S1x1x16x64_S2x2048x16x64_0_1_2_3 (broadcastInDim S1x1x16x64 ![2, 3] bcast_S16x64_S1x1x16x64_2_3 b))

theorem proj_apply (x : FVec Ideal S2x2048x1024 .f32) (w : FVec Ideal S1024x16x64 .f32) (b : FVec Ideal S16x64 .f32)
    (y : S2x2048x16x64.Idx) :
    proj x w b y = (∑ k : Fin 1024, x (ix3 (y 0) (y 1) k) * w (ix3 k (y 2) (y 3))) + b (ix2 (y 2) (y 3)) := by
  pointwise [proj]

/-- What is added to a score: zero where the pair's block is attended to, minus infinity elsewhere. -/
def adder (B : FVec F S32x32 .f32) : FVec F S2x16x2048x2048 .f32 :=
  broadcastInDim S2x16x2048x2048 ![0, 1, 2, 3] bcast_S1x1x2048x2048_S2x16x2048x2048_0_1_2_3 (id (broadcastInDim S1x1x2048x2048 ![2, 3] bcast_S2048x2048_S1x1x2048x2048_2_3 (select (cmpf .ogt (shapeCast _ (broadcastInDim S32x64x32x64 ![0, 1, 2, 3] bcast_S32x1x32x1_S32x64x32x64_0_1_2_3 (broadcastInDim S32x1x32x1 ![0, 2] bcast_S32x32_S32x1x32x1_0_2 B)) shapeCasts_S32x64x32x64_S2048x2048 : FVec F S2048x2048 .f32) (broadcastInDim S2048x2048 ![] bcast_S_S2048x2048 (constant S_ .f32 0x3F000000#32))) (broadcastInDim S2048x2048 ![] bcast_S_S2048x2048 (constant S_ .f32 0x00000000#32)) (broadcastInDim S2048x2048 ![] bcast_S_S2048x2048 (constant S_ .f32 0xFF800000#32)))))

theorem adder_apply (B : FVec Ideal S32x32 .f32) (y : S2x16x2048x2048.Idx) :
    adder B y = if Ideal.ofBits .f32 0x3F000000#32 < B (ix2 ⟨(y 2).val / 64, by have : (y 2).val < 2048 := (y 2).isLt; omega⟩
      ⟨(y 3).val / 64, by have : (y 3).val < 2048 := (y 3).isLt; omega⟩) then (0 : EReal) else ⊥ := by
  pointwise [adder, id]
  rw [neg_inf]

/-- The scores, masked. -/
def scores (q k : FVec F S2x2048x16x64 .f32) (A : FVec F S2x16x2048x2048 .f32) : FVec F S2x16x2048x2048 .f32 :=
  addf (mulf (Host.dotGeneral dot_S2x2048x16x64_S2x2048x16x64_S2x16x2048x2048_3_3_1_1_02_02 none q k) (broadcastInDim S2x16x2048x2048 ![] bcast_S_S2x16x2048x2048 (constant S_ .f32 0x3E000000#32))) A

theorem scores_apply (q k : FVec Ideal S2x2048x16x64 .f32) (A : FVec Ideal S2x16x2048x2048 .f32) (y : S2x16x2048x2048.Idx) :
    scores q k A y = (∑ d : Fin 64, q (ix4 (y 0) (y 2) (y 1) d) * k (ix4 (y 0) (y 3) (y 1) d)) * ((1 / 8 : ℝ) : EReal) + A y := by
  pointwise [scores]
  rw [eighth]

/-- The row maxima. -/
def tops (S : FVec F S2x16x2048x2048 .f32) : FVec F S2x16x2048 .f32 :=
  maximumf (broadcastInDim S2x16x2048 ![] bcast_S_S2x16x2048 (constant S_ .f32 0xFF800000#32)) (Host.reduce FloatOps.maximumf S (constant S_ .f32 0xFF800000#32) reducesTo_S2x16x2048x2048_S2x16x2048_d3 h_S_)

theorem red_apply (S : FVec Ideal S2x16x2048x2048 .f32) (x : FVec Ideal S_ .f32) (y : S2x16x2048.Idx) :
    Host.reduce FloatOps.maximumf S x reducesTo_S2x16x2048x2048_S2x16x2048_d3 h_S_ y
      = (Finset.univ : Finset (Fin 2048)).fold max (x (Shape.Idx.first h_S_)) (fun t : Fin 2048 => S (ix4 (y 0) (y 1) (y 2) t)) := by
  rw [Host.reduce_eq_fold]
  pointwise

theorem max_step (R : FVec Ideal S2x16x2048 .f32) (y : S2x16x2048.Idx) :
    maximumf (broadcastInDim S2x16x2048 ![] bcast_S_S2x16x2048 (constant S_ .f32 0xFF800000#32)) R y = R y :=
  (congrArg (fun z => max z (R y)) neg_inf).trans (max_eq_right bot_le)

theorem first_neg_inf : (constant S_ .f32 0xFF800000#32 : FVec Ideal S_ .f32) (Shape.Idx.first h_S_) = ⊥ := neg_inf

theorem tops_apply (S : FVec Ideal S2x16x2048x2048 .f32) (y : S2x16x2048.Idx) :
    tops S y = top (fun t : Fin 2048 => S (ix4 (y 0) (y 1) (y 2) t)) := by
  unfold top tops
  rw [max_step, red_apply, first_neg_inf]

/-- The weights before they are normalized. -/
def weights (S : FVec F S2x16x2048x2048 .f32) : FVec F S2x16x2048x2048 .f32 :=
  Host.exp (subf S (broadcastInDim S2x16x2048x2048 ![0, 1, 2, 3] bcast_S2x16x2048x1_S2x16x2048x2048_0_1_2_3 (broadcastInDim S2x16x2048x1 ![0, 1, 2] bcast_S2x16x2048_S2x16x2048x1_0_1_2 (tops S))))

theorem weights_apply (S : FVec Ideal S2x16x2048x2048 .f32) (y : S2x16x2048x2048.Idx) :
    weights S y = wt (fun t : Fin 2048 => S (ix4 (y 0) (y 1) (y 2) t)) (y 3) := by
  unfold wt
  have e := tops_apply S (ix3 (y 0) (y 1) (y 2))
  refine Eq.trans ?_ (congrArg (fun z => Ideal.exp (S (ix4 (y 0) (y 1) (y 2) (y 3)) - z)) e)
  pointwise [weights]

/-- The normalized weights times the values, the heads side by side. -/
def mix (v : FVec F S2x2048x16x64 .f32) (P : FVec F S2x16x2048x2048 .f32) : FVec F S2x2048x1024 .f32 :=
  shapeCast _ (transpose S2x2048x16x64 [0, 3, 1, 2] (Host.dotGeneral dot_S2x2048x16x64_S2x16x2048x2048_S2x16x64x2048_1_3_3_2_02_01 none v (Host.divf P (broadcastInDim S2x16x2048x2048 ![0, 1, 2, 3] bcast_S2x16x2048x1_S2x16x2048x2048_0_1_2_3 (broadcastInDim S2x16x2048x1 ![0, 1, 2] bcast_S2x16x2048_S2x16x2048x1_0_1_2 (Host.reduceAdd P (constant S_ .f32 0x00000000#32) reducesTo_S2x16x2048x2048_S2x16x2048_d3 h_S_))))) transposes_S2x16x64x2048_S2x2048x16x64_0_3_1_2) shapeCasts_S2x2048x16x64_S2x2048x1024

theorem mix_apply (v : FVec Ideal S2x2048x16x64 .f32) (P : FVec Ideal S2x16x2048x2048 .f32) (y : S2x2048x1024.Idx)
    (h : Fin 16) (d : Fin 64) (hd : (y 2).val = 64 * h.val + d.val) :
    mix v P y = ∑ t : Fin 2048, v (ix4 (y 0) t h d) * Ideal.div (P (ix4 (y 0) h (y 1) t)) (∑ t' : Fin 2048, P (ix4 (y 0) h (y 1) t')) := by
  have e0 : h.val = (y 2).val / 64 := by have := d.isLt; omega
  have e1 : d.val = (y 2).val % 64 := by have := d.isLt; omega
  obtain ⟨h, hh⟩ := h
  obtain ⟨d, hd'⟩ := d
  subst e0 e1
  pointwise [mix]

/-- The reference's result as one function of its arguments and the table of blocks. -/
def result (x t : FVec F S2x2048x1024 .f32) (wq wk wv : FVec F S1024x16x64 .f32) (bq bk bv : FVec F S16x64 .f32)
    (B : FVec F S32x32 .f32) : FVec F S2x2048x1024 .f32 :=
  mix (proj t wv bv) (weights (scores (proj x wq bq) (proj t wk bk) (adder B)))

end Cert.ReferenceIdeal.Val

end
-- ==== Proof.Val.RefValue.lean ====
module

public import proofs.«01_k».proof.Proof.Val.Reference

@[expose] public section

set_option maxRecDepth 16384

noncomputable section

/-! The reference's run ends with the function of its arguments that `Reference` reads element by element. -/

namespace Cert.ReferenceIdeal.Val

open Idealize.ShloMosaic Cert.ReferenceIdeal Cert.ReferenceIdeal.Gen Cert.ReferenceIdeal.Facts Cert.Attention

variable {F : FTy → Type} [FloatOps F]

theorem res_eq (m : (ℓ : Loc nD τ sig) → Buf (Elt F) ℓ) (c : Dev nD) :
    Value.res_main_v38 (F := F) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (fun i => FloatOps.ofBits .f32 (lit0 (S32x32.rowMajor i))) := by
  unfold Value.res_main_v38 result mix weights tops scores adder proj
  rfl

end Cert.ReferenceIdeal.Val

end
-- ==== Proof.Val.Payloads.lean ====
module

public import proofs.«01_k».proof.Proof.Gen.KernelIdeal.Skeleton
public import proofs.«01_k».proof.Proof.Val.Maths
public import Idealize.ShloMosaic.Lib.Pipeline.ValueKit.Point

@[expose] public section

set_option maxRecDepth 16384

noncomputable section

/-! The values the kernel's body computes, element by element over the extended reals. -/

namespace Cert.KernelIdeal.Val

open Idealize.ShloMosaic Cert.KernelIdeal Cert.KernelIdeal.Gen Cert.Attention

/-- A projection: a row of the block times a column of the weights, plus the bias. -/
def proj {n : Nat} (x : FVec Ideal ⟨3, ![1, n, 1024]⟩ .f32) (w : FVec Ideal S1024x1024 .bf16) (b : FVec Ideal S1x1024 .f32)
    (r : Fin n) (i : Fin 1024) : EReal := (∑ k : Fin 1024, x (ix3 0 r k) * w (ix2 k i)) + b (ix2 0 i)

theorem dite_step {p : Prop} [Decidable p] {a : p → EReal} {b : ¬ p → EReal} {z : EReal} (ha : ∀ h, a h = z) (hb : ∀ h, b h = z) :
    dite p a b = z := by
  by_cases h : p
  · rw [dif_pos h, ha]
  · rw [dif_neg h, hb]

theorem proj_congr {n : Nat} (x : FVec Ideal ⟨3, ![1, n, 1024]⟩ .f32) (w : FVec Ideal S1024x1024 .bf16)
    (b : FVec Ideal S1x1024 .f32) (r : Fin n) (i j : Fin 1024) (h : i.val = j.val) :
    (∑ k : Fin 1024, x (ix3 0 r k) * w (ix2 k i)) + b (ix2 0 i) = (∑ k : Fin 1024, x (ix3 0 r k) * w (ix2 k j)) + b (ix2 0 j) := by
  rw [Fin.ext h]

theorem pay12_apply (x : FVec Ideal S1x2048x1024 .f32) (w : FVec Ideal S1024x1024 .bf16) (b : FVec Ideal S1x1024 .f32)
    (y : S2048x1024.Idx) : k0_pay12 (F := Ideal) x w b y = proj x w b (y 0) (y 1) := by
  pointwise [k0_pay12, k0_pay11, proj]

theorem pay31_apply (x : FVec Ideal S1x2048x1024 .f32) (w : FVec Ideal S1024x1024 .bf16) (b : FVec Ideal S1x1024 .f32)
    (y : S2048x1024.Idx) : k0_pay31 (F := Ideal) (k0_pay11 (F := Ideal) x) w b y = proj x w b (y 0) (y 1) := by
  pointwise [k0_pay31, k0_pay11, proj]

theorem pay85_apply (x : FVec Ideal S1x64x1024 .f32) (w : FVec Ideal S1024x1024 .bf16) (b : FVec Ideal S1x1024 .f32)
    (y : S16x64x64.Idx) : k0_pay85 (F := Ideal) x w b y = proj x w b (y 1) ⟨64 * (y 0).val + (y 2).val, by have := (y 0).isLt; have := (y 2).isLt; simp only [Matrix.cons_val] at *; omega⟩ := by
  pointwise [k0_pay85, proj]
  have h0 : (y 0).val < 16 := (y 0).isLt
  repeat refine dite_step (fun h => proj_congr x w b (y 1) _ _ (by dsimp only; omega)) fun h => ?_
  refine proj_congr x w b (y 1) _ _ ?_
  dsimp only
  omega

/-- The word of minus infinity. -/
theorem neg_inf : Ideal.ofBits .f32 4286578688#32 = ⊥ := by simp [Ideal.ofBits, Ideal.ieee]

/-- The named constant of the idealized kernel. -/
theorem mask_bot : (Named.named κ "mask" 4048155338#32 : Ideal .f32) = ⊥ := rfl

theorem select_slt (a b : BitVec 32) (u v : EReal) :
    Scalar.select (IntOp.cmpi CmpIPredicate.slt a b) u v = if a.slt b = true then u else v := by
  unfold Scalar.select IntOp.cmpi
  cases h : a.slt b <;> simp [h]

/-- The scores of one query row of one head. -/
def scores {n : Nat} (q : FVec Ideal S16x64x64 .bf16) (ks : FVec Ideal ⟨3, ![16, n, 64]⟩ .bf16) (h : Fin 16) (r : Fin 64)
    (t : Fin n) : EReal := ∑ d : Fin 64, q (ix3 h r d) * ks (ix3 h t d)

theorem pay43_apply (q : FVec Ideal S16x64x64 .bf16) (ks vs : FVec Ideal S16x2048x64 .bf16) (y : S16x64x64.Idx) :
    k0_pay43 (F := Ideal) q ks vs y = late (scores q ks (y 0) (y 1)) (fun t => vs (ix3 (y 0) t (y 2))) := by
  unfold late tot wt top scores
  pointwise [k0_pay43]
  rw [neg_inf]

theorem pay71_apply (q : FVec Ideal S16x64x64 .bf16) (kg vg : FVec Ideal S16x448x64 .bf16) (n : BitVec 32) (y : S16x64x64.Idx) :
    k0_pay71 (F := Ideal) vg (k0_pay69 (F := Ideal) q kg n) (k0_pay70 (F := Ideal) q kg n) y
      = late (fun t : Fin 448 => if (BitVec.ofNat 32 t.val).slt (n * 64#32) then scores q kg (y 0) (y 1) t else ⊥)
          (fun t => vg (ix3 (y 0) t (y 2))) := by
  unfold late tot wt top scores
  pointwise [k0_pay71, k0_pay70, k0_pay69]
  rw [neg_inf]
  simp only [select_slt, mask_bot, Scalar.muli]
  rfl

end Cert.KernelIdeal.Val

end
-- ==== Proof.Val.Staged.lean ====
module

public import proofs.«01_k».proof.Proof.KI.Entry
public import proofs.«01_k».proof.Proof.Val.Payloads
public import Idealize.ShloMosaic.Lib.StableHlo.Run
public import Idealize.ShloMosaic.Lib.StableHlo.RunRead

@[expose] public section

set_option maxRecDepth 16384

noncomputable section

/-! The weights and biases as the launch finds them: the arguments with their two last axes as one, those of the queries
    scaled by an eighth. -/

namespace Cert.KernelIdeal.Val

open Idealize.ShloMosaic Idealize.ShloMosaic.TcCoe Idealize.ShloMosaic.StableHlo Cert.KernelIdeal Cert.KernelIdeal.Gen Cert.KernelIdeal.Attn Cert.Attention

variable (m : (ℓ : Loc nD τ sig) → Buf (Elt Ideal) ℓ)

theorem eighth : Ideal.ofBits .f32 1040187392#32 = ((1 / 8 : ℝ) : EReal) := by
  simp [Ideal.ofBits, Ideal.ieee]
  rw [← EReal.coe_mul]
  norm_num

/-- Column `i` of a row of 1024 is feature `i % 64` of head `i / 64`. -/
abbrev hd (i : Fin 1024) : Fin 16 := ⟨i.val / 64, by omega⟩
abbrev ft (i : Fin 1024) : Fin 64 := ⟨i.val % 64, by omega⟩

/-- The arguments. -/
def aFrom (c : Dev nD) : FVec Ideal S2x2048x1024 .f32 := m ((c.tc : Thread nD τ).loc main_arg0)
def aTo (c : Dev nD) : FVec Ideal S2x2048x1024 .f32 := m ((c.tc : Thread nD τ).loc main_arg1)
def aWq (c : Dev nD) : FVec Ideal S1024x16x64 .f32 := m ((c.tc : Thread nD τ).loc main_arg2)
def aWk (c : Dev nD) : FVec Ideal S1024x16x64 .f32 := m ((c.tc : Thread nD τ).loc main_arg3)
def aWv (c : Dev nD) : FVec Ideal S1024x16x64 .f32 := m ((c.tc : Thread nD τ).loc main_arg4)
def aBq (c : Dev nD) : FVec Ideal S16x64 .f32 := m ((c.tc : Thread nD τ).loc main_arg5)
def aBk (c : Dev nD) : FVec Ideal S16x64 .f32 := m ((c.tc : Thread nD τ).loc main_arg6)
def aBv (c : Dev nD) : FVec Ideal S16x64 .f32 := m ((c.tc : Thread nD τ).loc main_arg7)

/-- The staged weights and biases. -/
def sWq (c : Dev nD) : FVec Ideal S1024x1024 .bf16 := V m c main_v3
def sWk (c : Dev nD) : FVec Ideal S1024x1024 .bf16 := V m c main_v5
def sWv (c : Dev nD) : FVec Ideal S1024x1024 .bf16 := V m c main_v7
def sBq (c : Dev nD) : FVec Ideal S1x1024 .f32 := V m c main_v10
def sBk (c : Dev nD) : FVec Ideal S1x1024 .f32 := V m c main_v11
def sBv (c : Dev nD) : FVec Ideal S1x1024 .f32 := V m c main_v12

theorem sWq_eq (c : Dev nD) : sWq m c = truncf .bf16 (mulf (shapeCast S1024x1024 (aWq m c) shapeCasts_S1024x16x64_S1024x1024)
    (broadcastInDim S1024x1024 ![] bcast_S_S1024x1024 (constant S_ .f32 0x3E000000#32))) bitsLt_bf16_f32 := by
  unfold sWq V
  after_results_simp <;> rfl

theorem sBq_eq (c : Dev nD) : sBq m c = mulf (shapeCast S1x1024 (aBq m c) shapeCasts_S16x64_S1x1024)
    (broadcastInDim S1x1024 ![] bcast_S_S1x1024 (constant S_ .f32 0x3E000000#32)) := by
  unfold sBq V
  after_results_simp <;> rfl

theorem sWk_eq (c : Dev nD) : sWk m c = truncf .bf16 (shapeCast S1024x1024 (aWk m c) shapeCasts_S1024x16x64_S1024x1024) bitsLt_bf16_f32 := by
  unfold sWk V
  after_results_simp <;> rfl

theorem sWv_eq (c : Dev nD) : sWv m c = truncf .bf16 (shapeCast S1024x1024 (aWv m c) shapeCasts_S1024x16x64_S1024x1024) bitsLt_bf16_f32 := by
  unfold sWv V
  after_results_simp <;> rfl

theorem sBk_eq (c : Dev nD) : sBk m c = shapeCast S1x1024 (aBk m c) shapeCasts_S16x64_S1x1024 := by
  unfold sBk V
  after_results_simp <;> rfl

theorem sBv_eq (c : Dev nD) : sBv m c = shapeCast S1x1024 (aBv m c) shapeCasts_S16x64_S1x1024 := by
  unfold sBv V
  after_results_simp <;> rfl

theorem sWq_apply (c : Dev nD) (k i : Fin 1024) : sWq m c (ix2 k i) = aWq m c (ix3 k (hd i) (ft i)) * ((1 / 8 : ℝ) : EReal) := by
  rw [sWq_eq]
  pointwise
  rw [eighth]

theorem sBq_apply (c : Dev nD) (i : Fin 1024) : sBq m c (ix2 0 i) = aBq m c (ix2 (hd i) (ft i)) * ((1 / 8 : ℝ) : EReal) := by
  rw [sBq_eq]
  pointwise
  rw [eighth]

theorem sWk_apply (c : Dev nD) (k i : Fin 1024) : sWk m c (ix2 k i) = aWk m c (ix3 k (hd i) (ft i)) := by
  rw [sWk_eq]
  pointwise

theorem sWv_apply (c : Dev nD) (k i : Fin 1024) : sWv m c (ix2 k i) = aWv m c (ix3 k (hd i) (ft i)) := by
  rw [sWv_eq]
  pointwise

theorem sBk_apply (c : Dev nD) (i : Fin 1024) : sBk m c (ix2 0 i) = aBk m c (ix2 (hd i) (ft i)) := by
  rw [sBk_eq]
  pointwise

theorem sBv_apply (c : Dev nD) (i : Fin 1024) : sBv m c (ix2 0 i) = aBv m c (ix2 (hd i) (ft i)) := by
  rw [sBv_eq]
  pointwise

end Cert.KernelIdeal.Val

end
-- ==== Proof.Val.Tables.lean ====
module

public import proofs.«01_k».proof.Proof.Gen.KernelIdeal
public import proofs.«01_k».proof.Proof.Gen.ReferenceIdeal
public import Idealize.ShloMosaic.Lib.Pipeline.ValueKit.Point
public import proofs.«01_k».proof.Proof.Val.Maths

@[expose] public section

set_option maxRecDepth 16384

noncomputable section

/-! The kernel's two tables against the reference's: the blocks a row of blocks gathers are those the reference's mask
    leaves, each once. -/

namespace Cert.Attention

open Idealize.ShloMosaic

/-- The block a row of blocks gathers at place `s`, how many it gathers, and the reference's mask. -/
def word (r : Fin 32) (s : Fin 7) : BitVec 32 := KernelIdeal.lit0 (KernelIdeal.S32x7.rowMajor (ix2 r s))
def count (r : Fin 32) : BitVec 32 := KernelIdeal.lit1 (KernelIdeal.S32.rowMajor (ix1 r))
def maskBits (r j : Fin 32) : BitVec 32 := ReferenceIdeal.lit0 (ReferenceIdeal.S32x32.rowMajor (ix2 r j))

/-- The reference's mask leaves block `j` to the rows of block `r`. -/
def attends (r j : Fin 32) : Prop := maskBits r j = 0x3F800000#32
instance (r j : Fin 32) : Decidable (attends r j) := inferInstanceAs (Decidable (_ = _))

theorem maskBits_cases : ∀ r j : Fin 32, maskBits r j = 0x3F800000#32 ∨ maskBits r j = 0#32 := by decide +kernel
theorem attends_first : ∀ j : Fin 32, attends 0 j := by decide +kernel
theorem attends_self : ∀ r : Fin 32, attends r r := by decide +kernel
theorem word_lt : ∀ (r : Fin 32) (s : Fin 7), (word r s).toNat < 32 := by decide +kernel
theorem count_le : ∀ r : Fin 32, r ≠ 0 → (count r).toNat ≤ 7 := by decide +kernel
theorem attends_word : ∀ r : Fin 32, r ≠ 0 → ∀ s : Fin 7, s.val < (count r).toNat → ∀ j : Fin 32, (word r s).toNat = j.val → attends r j := by
  decide +kernel
theorem word_of_attends : ∀ r : Fin 32, r ≠ 0 → ∀ j : Fin 32, attends r j → ∃ s : Fin 7, s.val < (count r).toNat ∧ (word r s).toNat = j.val := by
  decide +kernel
theorem word_inj : ∀ r : Fin 32, r ≠ 0 → ∀ s s' : Fin 7, s.val < (count r).toNat → s'.val < (count r).toNat → (word r s).toNat = (word r s').toNat → s = s' := by
  decide +kernel

/-- The mask's word is above a half exactly where the block is left. -/
theorem mask_iff (r j : Fin 32) : Ideal.ofBits .f32 0x3F000000#32 < Ideal.ofBits .f32 (maskBits r j) ↔ attends r j := by
  have h2 : Ideal.ofBits .f32 0x3F000000#32 = ((1 / 2 : ℝ) : EReal) := by
    simp [Ideal.ofBits, Ideal.ieee]; rw [← EReal.coe_mul]; norm_num
  have h1 : Ideal.ofBits .f32 0x3F800000#32 = ((1 : ℝ) : EReal) := by
    simp [Ideal.ofBits, Ideal.ieee]; rw [← EReal.coe_mul]; norm_num
  have h0 : Ideal.ofBits .f32 0#32 = ((0 : ℝ) : EReal) := by
    simp [Ideal.ofBits, Ideal.ieee]
  unfold attends
  rcases maskBits_cases r j with e | e <;> rw [e, h2]
  · rw [h1, EReal.coe_lt_coe_iff]
    exact iff_of_true (by norm_num) rfl
  · rw [h0, EReal.coe_lt_coe_iff]
    exact iff_of_false (by norm_num) (by decide)

/-- The gathered rows past the count are cut off. -/
theorem slt_iff (n : BitVec 32) (hn : n.toNat ≤ 7) (x : ℕ) (hx : x < 448) :
    (BitVec.ofNat 32 x).slt (n * 64#32) = true ↔ x / 64 < n.toNat := by
  have e : (n * 64#32).toNat = n.toNat * 64 := by
    rw [BitVec.toNat_mul]
    exact Nat.mod_eq_of_lt (by show n.toNat * 64 < 4294967296; omega)
  have ex : (BitVec.ofNat 32 x).toNat = x := by
    rw [BitVec.toNat_ofNat]; exact Nat.mod_eq_of_lt (by omega)
  rw [BitVec.slt_iff_toInt_lt, BitVec.toInt_eq_toNat_of_lt (by omega), BitVec.toInt_eq_toNat_of_lt (by omega), e, ex]
  omega

/-- The block a key is in. -/
abbrev blockOf (t : Fin 2048) : Fin 32 := ⟨t.val / 64, by omega⟩

/-- The key row gathered at place `x` by the rows of block `r`. -/
def gathered (r : Fin 32) (x : Fin 448) : Fin 2048 :=
  ⟨((word r ⟨x.val / 64, by omega⟩).toNat * 64 + x.val % 64) % 2048, by omega⟩

theorem gathered_val (r : Fin 32) (x : Fin 448) :
    (gathered r x).val = (word r ⟨x.val / 64, by omega⟩).toNat * 64 + x.val % 64 := by
  have h := word_lt r ⟨x.val / 64, by omega⟩
  show ((word r ⟨x.val / 64, by omega⟩).toNat * 64 + x.val % 64) % 2048 = _
  omega

/-- A row's masked scores. -/
def masked (r : Fin 32) (S : Fin 2048 → EReal) (t : Fin 2048) : EReal := S t + if attends r (blockOf t) then 0 else ⊥

theorem masked_bot (r : Fin 32) (S : Fin 2048 → EReal) (t : Fin 2048) (h : ¬attends r (blockOf t)) : masked r S t = ⊥ := by
  unfold masked; rw [if_neg h, EReal.add_bot]

theorem masked_of (r : Fin 32) (S : Fin 2048 → EReal) (t : Fin 2048) (h : attends r (blockOf t)) : masked r S t = S t := by
  unfold masked; rw [if_pos h, add_zero]

/-- The first block's rows attend to every key. -/
theorem late_dense (S v : Fin 2048 → EReal) : late S v = late (masked 0 S) v :=
  congrArg (fun s => late s v) (funext fun t => (masked_of 0 S t (attends_first _)).symm)

/-- Attending to the gathered blocks is attending to the keys the mask leaves. -/
theorem late_sparse (r : Fin 32) (hr : r ≠ 0) (S v : Fin 2048 → EReal) :
    late (fun x : Fin 448 => if (BitVec.ofNat 32 x.val).slt (count r * 64#32) then S (gathered r x) else ⊥) (fun x => v (gathered r x))
      = late (masked r S) v := by
  have hA : ∀ x : Fin 448, (BitVec.ofNat 32 x.val).slt (count r * 64#32) = true ↔ x.val / 64 < (count r).toNat :=
    fun x => slt_iff _ (count_le r hr) _ x.isLt
  refine late_gather (gathered r) (fun x : Fin 448 => x.val / 64 < (count r).toNat) _ _ _ _ ?_ ?_ ?_ ?_ ?_
  · intro x hx
    have hw := word_lt r ⟨x.val / 64, by omega⟩
    have hg := gathered_val r x
    rw [masked_of r S _ (attends_word r hr ⟨x.val / 64, by omega⟩ hx _ (by show _ = (gathered r x).val / 64; omega))]
    exact if_pos ((hA x).mpr hx)
  · intro x hx
    exact if_neg fun h => hx ((hA x).mp h)
  · intro x y hx hy e
    have hgx := gathered_val r x
    have hgy := gathered_val r y
    have ev := congrArg Fin.val e
    have es := word_inj r hr ⟨x.val / 64, by omega⟩ ⟨y.val / 64, by omega⟩ hx hy (by omega)
    have es' := congrArg Fin.val es
    dsimp only at es'
    rw [es] at hgx
    exact Fin.ext (by omega)
  · intro k hk
    have ha : attends r (blockOf k) := by
      by_contra h
      exact hk (masked_bot r S k h)
    obtain ⟨s, hs, hw⟩ := word_of_attends r hr _ ha
    have hk' := k.isLt
    have hw' : (word r s).toNat = k.val / 64 := hw
    refine ⟨⟨s.val * 64 + k.val % 64, by omega⟩, ?_, Fin.ext ?_⟩
    · show (s.val * 64 + k.val % 64) / 64 < _
      omega
    · rw [gathered_val]
      have e : (⟨(s.val * 64 + k.val % 64) / 64, by omega⟩ : Fin 7) = s := Fin.ext (by show (s.val * 64 + k.val % 64) / 64 = s.val; omega)
      show (word r ⟨(s.val * 64 + k.val % 64) / 64, _⟩).toNat * 64 + (s.val * 64 + k.val % 64) % 64 = k.val
      rw [e]
      omega
  · intro x hx
    rfl

/-- A row whose scores are real may be normalized before the values are weighed as well as after. -/
theorem masked_early (r : Fin 32) (S v : Fin 2048 → EReal) (h : ∀ t, IsReal (S t)) : late (masked r S) v = early (masked r S) v := by
  refine late_eq_early _ _ (fun t => ?_) ?_
  · by_cases ha : attends r (blockOf t)
    · exact .inr (by rw [masked_of r S t ha]; exact h t)
    · exact .inl (masked_bot r S t ha)
  · have e : blockOf ⟨64 * r.val, by omega⟩ = r := Fin.ext (by show 64 * r.val / 64 = r.val; omega)
    refine ⟨⟨64 * r.val, by omega⟩, ?_⟩
    rw [masked_of r S _ (by rw [e]; exact attends_self r)]
    exact h _

end Cert.Attention

end
-- ==== Proof.Val.Rows.lean ====
module

public import proofs.«01_k».proof.Proof.KI.Frame
public import proofs.«01_k».proof.Proof.Val.Staged
public import proofs.«01_k».proof.Proof.Val.Reference
public import proofs.«01_k».proof.Proof.Val.Tables

@[expose] public section

set_option maxRecDepth 16384

noncomputable section

/-! A point's keys, values and queries as the reference's projections, and what the point leaves as attention over the keys
    its rows' mask leaves. -/

namespace Cert.KernelIdeal.Val

open Idealize.ShloMosaic Idealize.ShloMosaic.TcCoe Cert.KernelIdeal Cert.KernelIdeal.Gen Cert.KernelIdeal.Attn Cert.Attention

variable (m : (ℓ : Loc nD τ sig) → Buf (Elt Ideal) ℓ)

/-- The three projections of the arguments, as the reference computes them. -/
def qs (c : Dev nD) : FVec Ideal ReferenceIdeal.S2x2048x16x64 .f32 := ReferenceIdeal.Val.proj (aFrom m c) (aWq m c) (aBq m c)
def ks (c : Dev nD) : FVec Ideal ReferenceIdeal.S2x2048x16x64 .f32 := ReferenceIdeal.Val.proj (aTo m c) (aWk m c) (aBk m c)
def vs (c : Dev nD) : FVec Ideal ReferenceIdeal.S2x2048x16x64 .f32 := ReferenceIdeal.Val.proj (aTo m c) (aWv m c) (aBv m c)

theorem proj_plain {n : Nat} (x : FVec Ideal ⟨3, ![1, n, 1024]⟩ .f32) (w : FVec Ideal S1024x1024 .bf16) (b : FVec Ideal S1x1024 .f32)
    (r : Fin n) (i : Fin 1024) (X : FVec Ideal S2x2048x1024 .f32) (W : FVec Ideal S1024x16x64 .f32) (B : FVec Ideal S16x64 .f32)
    (bt : Fin 2) (f : Fin 2048) (h : Fin 16) (d : Fin 64) (hx : ∀ k, x (ix3 0 r k) = X (ix3 bt f k))
    (hw : ∀ k, w (ix2 k i) = W (ix3 k h d)) (hb : b (ix2 0 i) = B (ix2 h d)) :
    proj x w b r i = ReferenceIdeal.Val.proj X W B (ix4 bt f h d) := by
  rw [ReferenceIdeal.Val.proj_apply]
  unfold proj
  rw [hb]
  refine congrArg₂ (· + ·) (Finset.sum_congr rfl fun k _ => ?_) rfl
  rw [hx, hw]
  rfl

theorem proj_scaled {n : Nat} (x : FVec Ideal ⟨3, ![1, n, 1024]⟩ .f32) (w : FVec Ideal S1024x1024 .bf16) (b : FVec Ideal S1x1024 .f32)
    (r : Fin n) (i : Fin 1024) (X : FVec Ideal S2x2048x1024 .f32) (W : FVec Ideal S1024x16x64 .f32) (B : FVec Ideal S16x64 .f32)
    (bt : Fin 2) (f : Fin 2048) (h : Fin 16) (d : Fin 64) (hx : ∀ k, x (ix3 0 r k) = X (ix3 bt f k))
    (hw : ∀ k, w (ix2 k i) = W (ix3 k h d) * ((1 / 8 : ℝ) : EReal)) (hb : b (ix2 0 i) = B (ix2 h d) * ((1 / 8 : ℝ) : EReal)) :
    proj x w b r i = ReferenceIdeal.Val.proj X W B (ix4 bt f h d) * ((1 / 8 : ℝ) : EReal) := by
  rw [ReferenceIdeal.Val.proj_apply, add_mul_real _ _ _ (by norm_num), sum_mul_real _ _ _ (by norm_num)]
  unfold proj
  rw [hb]
  refine congrArg₂ (· + ·) (Finset.sum_congr rfl fun k _ => ?_) rfl
  rw [hx, hw, ← mul_assoc]
  rfl

theorem hd_of (i : Fin 1024) (h : Fin 16) (d : Fin 64) (e : i.val = 64 * h.val + d.val) : hd i = h :=
  Fin.ext (by show i.val / 64 = h.val; omega)
theorem ft_of (i : Fin 1024) (h : Fin 16) (d : Fin 64) (e : i.val = 64 * h.val + d.val) : ft i = d :=
  Fin.ext (by show i.val % 64 = d.val; omega)

/-- The batch of a point, and the row of the batch that is the point's row `r`. -/
def batchOf (t : Fin (cfgM m).N) : Fin 2 := ⟨t.val / 33, by have := lt66 m t; omega⟩
def rowAt (t : Fin (cfgM m).N) (r : Fin 64) : Fin 2048 := ⟨64 * (t.val % 33 - 1) + r.val, by omega⟩

theorem from_apply (c : Dev nD) (t : Fin (cfgM m).N) (r : Fin 64) (k : Fin 1024) :
    (iblk m c 0 t : FVec Ideal S1x64x1024 .f32) (ix3 0 r k) = aFrom m c (ix3 (batchOf m t) (rowAt m t r) k) := by
  refine (iblk_from m c t (ix3 0 r k)).trans ?_
  rw [V_kept m c main_arg0 (by decide)]
  rfl

theorem to_apply (c : Dev nD) (t : Fin (cfgM m).N) (r : Fin 2048) (k : Fin 1024) :
    (iblk m c 1 t : FVec Ideal S1x2048x1024 .f32) (ix3 0 r k) = aTo m c (ix3 (batchOf m t) r k) := by
  refine (iblk_to m c t (ix3 0 r k)).trans ?_
  rw [V_kept m c main_arg1 (by decide)]
  rfl

theorem keys_apply (c : Dev nD) (t : Fin (cfgM m).N) (h : Fin 16) (r : Fin 2048) (d : Fin 64) :
    (keysAt m c t : FVec Ideal S16x2048x64 .bf16) (ix3 h r d) = ks m c (ix4 (batchOf m t) r h d) := by
  have hi : 64 * h.val + d.val < 1024 := by omega
  refine (pay12_apply (iblk m c 1 t) (iblk m c 3 t) (iblk m c 6 t) (ix2 r ⟨64 * h.val + d.val, hi⟩)).trans ?_
  refine proj_plain _ _ _ r ⟨64 * h.val + d.val, hi⟩ _ _ _ (batchOf m t) r h d (to_apply m c t r) (fun k => ?_) ?_
  · refine (congrFun (iblk_3 m c t) _).trans ((sWk_apply m c k _).trans ?_)
    rw [hd_of _ h d rfl, ft_of _ h d rfl]
  · refine (congrFun (iblk_6 m c t) _).trans ((sBk_apply m c _).trans ?_)
    rw [hd_of _ h d rfl, ft_of _ h d rfl]

theorem vals_apply (c : Dev nD) (t : Fin (cfgM m).N) (h : Fin 16) (r : Fin 2048) (d : Fin 64) :
    (valsAt m c t : FVec Ideal S16x2048x64 .bf16) (ix3 h r d) = vs m c (ix4 (batchOf m t) r h d) := by
  have hi : 64 * h.val + d.val < 1024 := by omega
  refine (pay31_apply (iblk m c 1 t) (iblk m c 4 t) (iblk m c 7 t) (ix2 r ⟨64 * h.val + d.val, hi⟩)).trans ?_
  refine proj_plain _ _ _ r ⟨64 * h.val + d.val, hi⟩ _ _ _ (batchOf m t) r h d (to_apply m c t r) (fun k => ?_) ?_
  · refine (congrFun (iblk_4 m c t) _).trans ((sWv_apply m c k _).trans ?_)
    rw [hd_of _ h d rfl, ft_of _ h d rfl]
  · refine (congrFun (iblk_7 m c t) _).trans ((sBv_apply m c _).trans ?_)
    rw [hd_of _ h d rfl, ft_of _ h d rfl]

theorem query_apply (c : Dev nD) (t : Fin (cfgM m).N) (h : Fin 16) (r d : Fin 64) :
    (queryAt m c t : FVec Ideal S16x64x64 .bf16) (ix3 h r d) = qs m c (ix4 (batchOf m t) (rowAt m t r) h d) * ((1 / 8 : ℝ) : EReal) := by
  have hi : 64 * h.val + d.val < 1024 := by omega
  refine (pay85_apply (iblk m c 0 t) (iblk m c 2 t) (iblk m c 5 t) (ix3 h r d)).trans ?_
  refine proj_scaled _ _ _ r ⟨64 * h.val + d.val, hi⟩ _ _ _ (batchOf m t) (rowAt m t r) h d (from_apply m c t r) (fun k => ?_) ?_
  · refine (congrFun (iblk_2 m c t) _).trans ((sWq_apply m c k _).trans ?_)
    rw [hd_of _ h d rfl, ft_of _ h d rfl]
  · refine (congrFun (iblk_5 m c t) _).trans ((sBq_apply m c _).trans ?_)
    rw [hd_of _ h d rfl, ft_of _ h d rfl]

/-- A row's scores, as the reference computes them before its mask. -/
def scoreOf (c : Dev nD) (b : Fin 2) (h : Fin 16) (f : Fin 2048) (t : Fin 2048) : EReal :=
  (∑ d : Fin 64, qs m c (ix4 b f h d) * ks m c (ix4 b t h d)) * ((1 / 8 : ℝ) : EReal)

theorem score_apply {n : Nat} (c : Dev nD) (t : Fin (cfgM m).N) (h : Fin 16) (r : Fin 64) (kk : FVec Ideal ⟨3, ![16, n, 64]⟩ .bf16)
    (x : Fin n) (k : Fin 2048) (hk : ∀ d, kk (ix3 h x d) = (keysAt m c t : FVec Ideal S16x2048x64 .bf16) (ix3 h k d)) :
    scores (queryAt m c t) kk h r x = scoreOf m c (batchOf m t) h (rowAt m t r) k := by
  unfold scores scoreOf
  rw [sum_mul_real _ _ _ (by norm_num)]
  refine Finset.sum_congr rfl fun d _ => ?_
  rw [hk, query_apply, keys_apply]
  exact mul_right_comm _ _ _

/-- The row of blocks of a point. -/
def blockRow (t : Fin (cfgM m).N) : Fin 32 := ⟨t.val % 33 - 1, by omega⟩

theorem rowOf_eq (t : Fin (cfgM m).N) (h : t.val % 33 ≠ 0) : rowOf (grid0.coords t) = blockRow m t :=
  Fin.ext (by
    show ((grid0.coords t 1).val - 1) % 32 = t.val % 33 - 1
    rw [coord_step t]
    omega)

theorem words_eq (c : Dev nD) (t : Fin (cfgM m).N) (h : t.val % 33 ≠ 0) (s : Fin 7) : wordsAt m c t s = word (blockRow m t) s := by
  have e : tbl m 0 = (fun i => lit0 (S32x7.rowMajor i)) := V_idx m 0
  unfold wordsAt rowWords
  rw [e, rowOf_eq m t h]
  rfl

theorem count_eq (c : Dev nD) (t : Fin (cfgM m).N) (h : t.val % 33 ≠ 0) : countAt m c t = count (blockRow m t) := by
  have e : tbl m 1 = (fun i => lit1 (S32.rowMajor i)) := V_cnt m 0
  unfold countAt rowCount
  rw [e, rowOf_eq m t h]
  rfl

theorem gathered_apply (c : Dev nD) (t : Fin (cfgM m).N) (ht : t.val % 33 ≠ 0) (u : FVec Ideal S16x2048x64 .bf16) (h : Fin 16) (x : Fin 448) (d : Fin 64) :
    (gatherRows (F := Ideal) (wordsAt m c t) u : FVec Ideal S16x448x64 .bf16) (ix3 h x d) = u (ix3 h (gathered (blockRow m t) x) d) := by
  have e : wordsAt m c t = word (blockRow m t) := funext (words_eq m c t ht)
  rw [e]
  rfl

/-- What a point leaves at row `r`, head `h`, feature `d`. -/
theorem dense_apply (c : Dev nD) (t : Fin (cfgM m).N) (ht : t.val % 33 = 1) (y : S1x64x1024.Idx) :
    denseOut m c t y = late (masked (blockRow m t) (scoreOf m c (batchOf m t) (hd (y 2)) (rowAt m t (y 1))))
      (fun k => vs m c (ix4 (batchOf m t) k (hd (y 2)) (ft (y 2)))) := by
  have e : blockRow m t = 0 := Fin.ext (by show t.val % 33 - 1 = 0; omega)
  rw [e, ← late_dense]
  refine (pay43_apply (queryAt m c t) (keysAt m c t) (valsAt m c t) (ix3 (hd (y 2)) (y 1) (ft (y 2)))).trans ?_
  refine congrArg₂ late (funext fun k => ?_) (funext fun k => ?_)
  · exact score_apply m c t _ _ _ k k fun _ => rfl
  · exact vals_apply m c t _ _ _

theorem sparse_apply (c : Dev nD) (t : Fin (cfgM m).N) (ht : 1 < t.val % 33) (y : S1x64x1024.Idx) :
    sparseOut m c t y = late (masked (blockRow m t) (scoreOf m c (batchOf m t) (hd (y 2)) (rowAt m t (y 1))))
      (fun k => vs m c (ix4 (batchOf m t) k (hd (y 2)) (ft (y 2)))) := by
  have hr : blockRow m t ≠ 0 := fun e => by
    have := congrArg Fin.val e
    change t.val % 33 - 1 = 0 at this
    omega
  rw [← late_sparse _ hr]
  refine (pay71_apply (queryAt m c t) (gatherRows (wordsAt m c t) (keysAt m c t)) (gatherRows (wordsAt m c t) (valsAt m c t)) (countAt m c t)
    (ix3 (hd (y 2)) (y 1) (ft (y 2)))).trans ?_
  rw [count_eq m c t (by omega)]
  refine congrArg₂ late (funext fun x => ?_) (funext fun x => ?_)
  · refine congrArg (fun z => if (BitVec.ofNat 32 x.val).slt (count (blockRow m t) * 64#32) then z else ⊥) ?_
    exact score_apply m c t _ _ _ x _ fun d => gathered_apply m c t (by omega) _ _ _ _
  · exact (gathered_apply m c t (by omega) _ _ _ _).trans (vals_apply m c t _ _ _)

theorem out_apply (c : Dev nD) (t : Fin (cfgM m).N) (ht : t.val % 33 ≠ 0) (y : S1x64x1024.Idx) :
    outAt m c t y = late (masked (blockRow m t) (scoreOf m c (batchOf m t) (hd (y 2)) (rowAt m t (y 1))))
      (fun k => vs m c (ix4 (batchOf m t) k (hd (y 2)) (ft (y 2)))) := by
  unfold outAt
  by_cases h : t.val % 33 = 1
  · rw [if_pos h]
    exact dense_apply m c t h y
  · rw [if_neg h]
    exact sparse_apply m c t (by omega) y

end Cert.KernelIdeal.Val

end
-- ==== Proof.Val.Result.lean ====
module

public import proofs.«01_k».proof.Proof.KI.Run
public import proofs.«01_k».proof.Proof.Val.Rows
public import Idealize.ShloMosaic.Lib.Pipeline.Covers

@[expose] public section

set_option maxRecDepth 16384

noncomputable section

/-! The kernel's result array and the reference's, element by element. -/

namespace Cert.KernelIdeal.Val

open Idealize.ShloMosaic Idealize.ShloMosaic.TcCoe Cert.KernelIdeal Cert.KernelIdeal.Gen Cert.KernelIdeal.Attn Cert.Attention

variable (m : (ℓ : Loc nD τ sig) → Buf (Elt Ideal) ℓ)

/-- The row of blocks that row `f` of a batch is in. -/
abbrev blockIn (f : Fin 2048) : Fin 32 := ⟨f.val / 64, by omega⟩

/-- The kernel's result at a place: the row's weights applied to the values, then divided by their sum. -/
def resultLate (c : Dev nD) : FVec Ideal S2x2048x1024 .f32 := fun i =>
  late (masked (blockIn (i 1)) (scoreOf m c (i 0) (hd (i 2)) (i 1))) (fun k => vs m c (ix4 (i 0) k (hd (i 2)) (ft (i 2))))

/-- The reference's: the row's weights divided by their sum, then applied to the values. -/
def resultEarly (c : Dev nD) : FVec Ideal S2x2048x1024 .f32 := fun i =>
  early (masked (blockIn (i 1)) (scoreOf m c (i 0) (hd (i 2)) (i 1))) (fun k => vs m c (ix4 (i 0) k (hd (i 2)) (ft (i 2))))

/-- The place of the result that entry `y` of point `t`'s block is. -/
theorem emb_8 (t : Fin (cfgM m).N) (y : S1x64x1024.Idx) :
    (((cfgM m).win 8).blk t).view.emb y = ix3 (batchOf m t) (rowAt m t (y 1)) (y 2) := by
  unfold batchOf rowAt
  blk_ext [index8 m t]

/-- Every place of the result is in some point's block. -/
theorem covers_8 : ((cfgM m).win 8).Covers :=
  ((cfgM m).win 8).covers_of_index_surj rfl (show ∀ a : Fin 3, 0 < (![1, 64, 1024] : Fin 3 → ℕ) a from by decide) fun β => by
    have h0 : (β (0 : Fin 3)).val < 2 := lt_of_lt_of_eq (β (0 : Fin 3)).isLt (show (2 + 1 - 1) / 1 = 2 from rfl)
    have h1 : (β (1 : Fin 3)).val < 32 := lt_of_lt_of_eq (β (1 : Fin 3)).isLt (show (2048 + 64 - 1) / 64 = 32 from rfl)
    have h2 : (β (2 : Fin 3)).val < 1 := lt_of_lt_of_eq (β (2 : Fin 3)).isLt (show (1024 + 1024 - 1) / 1024 = 1 from rfl)
    refine ⟨⟨(β (0 : Fin 3)).val * 33 + (β (1 : Fin 3)).val + 1, by show _ < 66; omega⟩, fun a => ?_⟩
    rw [index8]
    match a with
    | ⟨0, _⟩ => show ((β (0 : Fin 3)).val * 33 + (β (1 : Fin 3)).val + 1) / 33 = (β (0 : Fin 3)).val; omega
    | ⟨1, _⟩ => show ((β (0 : Fin 3)).val * 33 + (β (1 : Fin 3)).val + 1) % 33 - 1 = (β (1 : Fin 3)).val; omega
    | ⟨2, _⟩ => show 0 = (β (2 : Fin 3)).val; omega

/-- The launch leaves `resultLate` in its result. -/
theorem arr_eq (c : Dev nD) : (dats m 0 c).arrAt 8 (cfgM m).N = resultLate m c := by
  refine (dats m 0 c).arrAt_eq_of_covers 8 (resultLate m c) (covers_8 m) fun t hf (y : S1x64x1024.Idx) => ?_
  have ht : t.val % 33 ≠ 0 := fun h => by
    rw [noFlush_first m t h] at hf
    exact Bool.noConfusion hf
  change outAt m c t y = resultLate m c ((((cfgM m).win 8).blk t).view.emb y)
  refine Eq.trans ?_ (congrArg (resultLate m c) (emb_8 m t y)).symm
  refine (out_apply m c t ht y).trans ?_
  have e : blockIn (rowAt m t (y 1)) = blockRow m t := Fin.ext (by
    have hy : (y 1).val < 64 := (y 1).isLt
    show (64 * (t.val % 33 - 1) + (y 1).val) / 64 = t.val % 33 - 1
    omega)
  unfold resultLate
  rw [← e]
  rfl

/-- The reference's result is `resultEarly`. -/
theorem reference_eq (c : Dev nD) :
    ReferenceIdeal.Val.result (aFrom m c) (aTo m c) (aWq m c) (aWk m c) (aWv m c) (aBq m c) (aBk m c) (aBv m c)
      (fun i => FloatOps.ofBits .f32 (ReferenceIdeal.lit0 (ReferenceIdeal.S32x32.rowMajor i))) = resultEarly m c := by
  funext i
  have e : (i 2).val = 64 * (hd (i 2)).val + (ft (i 2)).val := by
    show (i 2).val = 64 * ((i 2).val / 64) + (i 2).val % 64
    omega
  unfold ReferenceIdeal.Val.result
  rw [ReferenceIdeal.Val.mix_apply _ _ i (hd (i 2)) (ft (i 2)) e]
  have es : (fun t : Fin 2048 => ReferenceIdeal.Val.scores (qs m c) (ks m c)
        (ReferenceIdeal.Val.adder (F := Ideal) (fun i => FloatOps.ofBits .f32 (ReferenceIdeal.lit0 (ReferenceIdeal.S32x32.rowMajor i)))) (ix4 (i 0) (hd (i 2)) (i 1) t))
      = masked (blockIn (i 1)) (scoreOf m c (i 0) (hd (i 2)) (i 1)) := by
    funext t
    rw [ReferenceIdeal.Val.scores_apply, ReferenceIdeal.Val.adder_apply]
    unfold masked scoreOf
    refine congrArg₂ (· + ·) rfl ?_
    exact if_congr (mask_iff (blockIn (i 1)) (blockOf t)) rfl rfl
  have ew : ∀ t : Fin 2048, ReferenceIdeal.Val.weights (ReferenceIdeal.Val.scores (qs m c) (ks m c)
        (ReferenceIdeal.Val.adder (F := Ideal) (fun i => FloatOps.ofBits .f32 (ReferenceIdeal.lit0 (ReferenceIdeal.S32x32.rowMajor i))))) (ix4 (i 0) (hd (i 2)) (i 1) t)
      = wt (masked (blockIn (i 1)) (scoreOf m c (i 0) (hd (i 2)) (i 1))) t := fun t => by
    rw [ReferenceIdeal.Val.weights_apply]
    exact congrArg (fun s => wt s t) es
  unfold resultEarly early tot
  refine Finset.sum_congr rfl fun t _ => ?_
  refine congrArg₂ (· * ·) rfl ?_
  refine congrArg₂ Ideal.div (ew t) (Finset.sum_congr rfl fun t' _ => ew t')

/-- Where every score is real the two agree. -/
theorem late_early (c : Dev nD) (h : ∀ b hh f t, IsReal (scoreOf m c b hh f t)) : resultLate m c = resultEarly m c :=
  funext fun i => masked_early _ _ _ fun t => h _ _ _ t

end Cert.KernelIdeal.Val

end
-- ==== Proof.Val.Finite.lean ====
module

public import proofs.«01_k».proof.Pre_finite_scores
public import proofs.«01_k».proof.Proof.Val.Rows
public import Idealize.ShloMosaic.Lib.ReduceAll

@[expose] public section

set_option maxRecDepth 16384

noncomputable section

/-! What the precondition says: every element of the six arrays the scores come from is a real number, so every score is. -/

namespace Cert.KernelIdeal.Val

open Idealize.ShloMosaic Idealize.ShloMosaic.TcCoe Cert.KernelIdeal Cert.KernelIdeal.Gen Cert.KernelIdeal.Attn Cert.Attention

section Read

theorem pos_inf : Ideal.ofBits .f32 0x7F800000#32 = ⊤ := by simp [Ideal.ofBits, Ideal.ieee]

theorem and_bits : ∀ a b : BitVec 1, IntOp.andi a b = 1#1 → a = 1#1 ∧ b = 1#1 := by decide

theorem and_one (a b : IVec Pre_finite_scores.S_ 1) (j : Pre_finite_scores.S_.Idx) (h : andi a b j = 1#1) : a j = 1#1 ∧ b j = 1#1 :=
  and_bits _ _ h

/-- A magnitude below infinity is that of a real number. -/
theorem isReal_of_lt (x : EReal) (h : FloatOps.cmpf (F := Ideal) (φ := .f32) .olt (FloatOps.absf (F := Ideal) (φ := .f32) x) (Ideal.ofBits .f32 0x7F800000#32) = 1#1) : IsReal x := by
  rw [pos_inf] at h
  have h' : max x (-x) < ⊤ := by
    by_contra hn
    have : FloatOps.cmpf (F := Ideal) (φ := .f32) .olt (FloatOps.absf (F := Ideal) (φ := .f32) x) ⊤ = 0#1 := by
      show BitVec.ofBool (decide (max x (-x) < ⊤)) = 0#1
      rw [decide_eq_false hn]; rfl
    rw [this] at h
    exact absurd h (by decide)
  obtain ⟨h1, h2⟩ := max_lt_iff.mp h'
  refine isReal_of h1.ne fun e => ?_
  rw [e, EReal.neg_bot] at h2
  exact lt_irrefl _ h2

/-- Every magnitude of an array below infinity makes its elements real. -/
theorem all_real {s : Shape} {dims : List (Fin s.rank)} (x : FVec Ideal s .f32) (bc : Pre_finite_scores.S_.BroadcastsInDim s (![] : Fin 0 → Fin s.rank))
    (r : s.ReducesTo dims Pre_finite_scores.S_) (hp : 0 < Pre_finite_scores.S_.numel) (j : Pre_finite_scores.S_.Idx)
    (e : Host.reduce IntOp.andi (cmpf .olt (Host.absf x) (broadcastInDim s ![] bc (constant (F := Ideal) Pre_finite_scores.S_ .f32 0x7F800000#32)))
      (constantI Pre_finite_scores.S_ 1 1#1) r hp j = 1#1) (i : s.Idx) : IsReal (x i) := by
  have hs : Subsingleton Pre_finite_scores.S_.Idx := ⟨fun a b => funext fun k => k.elim0⟩
  exact isReal_of_lt (x i) (Host.reduce_andi_all _ _ r hp j e i)

variable [Pre_finite_scores.Facts]

theorem reads (x t : FVec Ideal S2x2048x1024 .f32) (wq wk wv : FVec Ideal S1024x16x64 .f32) (bq bk bv : FVec Ideal S16x64 .f32)
    (h : Pre_finite_scores.fn (F := Ideal) x t wq wk wv bq bk bv = fun _ => 1#1) :
    (∀ i, IsReal (x i)) ∧ (∀ i, IsReal (t i)) ∧ (∀ i, IsReal (wq i)) ∧ (∀ i, IsReal (wk i)) ∧ (∀ i, IsReal (bq i)) ∧ (∀ i, IsReal (bk i)) := by
  have g0 := congrFun h (fun a : Fin 0 => a.elim0)
  clear h
  obtain ⟨g1, h6⟩ := and_one _ _ _ g0
  clear g0
  obtain ⟨g2, h5⟩ := and_one _ _ _ g1
  clear g1
  obtain ⟨g3, h4⟩ := and_one _ _ _ g2
  clear g2
  obtain ⟨g4, h3⟩ := and_one _ _ _ g3
  clear g3
  obtain ⟨h1, h2⟩ := and_one _ _ _ g4
  clear g4
  have r1 := all_real x Pre_finite_scores.Facts.bcast_S_S2x2048x1024 Pre_finite_scores.Facts.reducesTo_S2x2048x1024_S_d0_1_2 Pre_finite_scores.Facts.h_S_ _ h1
  have r2 := all_real t Pre_finite_scores.Facts.bcast_S_S2x2048x1024 Pre_finite_scores.Facts.reducesTo_S2x2048x1024_S_d0_1_2 Pre_finite_scores.Facts.h_S_ _ h2
  have r3 := all_real wq Pre_finite_scores.Facts.bcast_S_S1024x16x64 Pre_finite_scores.Facts.reducesTo_S1024x16x64_S_d0_1_2 Pre_finite_scores.Facts.h_S_ _ h3
  have r4 := all_real wk Pre_finite_scores.Facts.bcast_S_S1024x16x64 Pre_finite_scores.Facts.reducesTo_S1024x16x64_S_d0_1_2 Pre_finite_scores.Facts.h_S_ _ h4
  have r5 := all_real bq Pre_finite_scores.Facts.bcast_S_S16x64 Pre_finite_scores.Facts.reducesTo_S16x64_S_d0_1 Pre_finite_scores.Facts.h_S_ _ h5
  have r6 := all_real bk Pre_finite_scores.Facts.bcast_S_S16x64 Pre_finite_scores.Facts.reducesTo_S16x64_S_d0_1 Pre_finite_scores.Facts.h_S_ _ h6
  exact ⟨r1, r2, r3, r4, r5, r6⟩

end Read

theorem proj_real (X : FVec Ideal S2x2048x1024 .f32) (W : FVec Ideal S1024x16x64 .f32) (B : FVec Ideal S16x64 .f32)
    (hX : ∀ i, IsReal (X i)) (hW : ∀ i, IsReal (W i)) (hB : ∀ i, IsReal (B i)) (y : ReferenceIdeal.S2x2048x16x64.Idx) :
    IsReal (ReferenceIdeal.Val.proj X W B y) := by
  rw [ReferenceIdeal.Val.proj_apply]
  exact (IsReal.sum _ _ fun k => (hX _).mul (hW _)).add (hB _)

variable (m : (ℓ : Loc nD τ sig) → Buf (Elt Ideal) ℓ)

/-- Under the precondition every score is real. -/
theorem score_real [Pre_finite_scores.Facts] (c : Dev nD)
    (h : Pre_finite_scores.fn (F := Ideal) (aFrom m c) (aTo m c) (aWq m c) (aWk m c) (aWv m c) (aBq m c) (aBk m c) (aBv m c) = fun _ => 1#1)
    (b : Fin 2) (hh : Fin 16) (f t : Fin 2048) : IsReal (scoreOf m c b hh f t) := by
  obtain ⟨h1, h2, h3, h4, h5, h6⟩ := reads _ _ _ _ _ _ _ _ h
  refine (IsReal.sum _ _ fun d => ?_).mul ⟨_, rfl⟩
  exact (proj_real _ _ _ h1 h3 h5 _).mul (proj_real _ _ _ h2 h4 h6 _)

end Cert.KernelIdeal.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.K.Run
public import proofs.«01_k».proof.Proof.KI.Run
public import proofs.«01_k».proof.Proof.Val.RefValue
public import proofs.«01_k».proof.Proof.Val.Result
public import proofs.«01_k».proof.Proof.Val.Finite
public import Idealize.ShloMosaic.Adequacy
public import Idealize.ShloMosaic.Init

@[expose] public section

noncomputable section

namespace Cert.Proof

open Idealize.ShloMosaic Idealize.SL.Sem

/-- The kernel runs, leaves its arguments as they were and every counter at zero. -/
theorem frame_kernel : Cert.quiescent_Kernel (hKernel := Cert.Kernel.Gen.facts) := fun m g _ =>
  (θ_run Cert.Kernel.defs _ _).mono (fun r h => ⟨fun c => (Cert.Kernel.Attn.run_post m r h.1 c).2, h.2⟩)
    (Cert.Kernel.Attn.run_main m g)

/-- The idealized kernel runs, leaves its arguments as they were and every counter at zero. -/
theorem frame_kernel_ideal : Cert.quiescent_KernelIdeal (hKernelIdeal := Cert.KernelIdeal.Gen.facts) := fun m g _ =>
  (θ_run Cert.KernelIdeal.defs _ _).mono (fun r h => ⟨fun c => (Cert.KernelIdeal.Attn.run_post m r h.1 c).2, h.2⟩)
    (Cert.KernelIdeal.Attn.run_main m g)

/-- The reference runs, leaves its arguments as they were and every counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The constant that the idealized kernel names stands for minus infinity. -/
theorem mask_named : Cert.preserves_Kernel_KernelIdeal :=
  IdealRules.named_const.statement Cert.KernelIdeal.κ "mask" .f32 0xF149F2CA#32 ⊥ rfl

/-- On finite inputs of the scores the reference's result is what the idealized kernel's launch leaves. -/
theorem reference_value [Cert.Pre_finite_scores.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_finite_scores.fn (F := Ideal) (Cert.KernelIdeal.Val.aFrom m c) (Cert.KernelIdeal.Val.aTo m c) (Cert.KernelIdeal.Val.aWq m c)
      (Cert.KernelIdeal.Val.aWk m c) (Cert.KernelIdeal.Val.aWv m c) (Cert.KernelIdeal.Val.aBq m c) (Cert.KernelIdeal.Val.aBk m c) (Cert.KernelIdeal.Val.aBv m c) = fun _ => 1#1)
    (h0 : m' ((c.tc : Thread Cert.ReferenceIdeal.nD Cert.ReferenceIdeal.τ).loc Cert.ReferenceIdeal.main_arg0) = Cert.KernelIdeal.Val.aFrom m c)
    (h1 : m' ((c.tc : Thread Cert.ReferenceIdeal.nD Cert.ReferenceIdeal.τ).loc Cert.ReferenceIdeal.main_arg1) = Cert.KernelIdeal.Val.aTo m c)
    (h2 : m' ((c.tc : Thread Cert.ReferenceIdeal.nD Cert.ReferenceIdeal.τ).loc Cert.ReferenceIdeal.main_arg2) = Cert.KernelIdeal.Val.aWq m c)
    (h3 : m' ((c.tc : Thread Cert.ReferenceIdeal.nD Cert.ReferenceIdeal.τ).loc Cert.ReferenceIdeal.main_arg3) = Cert.KernelIdeal.Val.aWk m c)
    (h4 : m' ((c.tc : Thread Cert.ReferenceIdeal.nD Cert.ReferenceIdeal.τ).loc Cert.ReferenceIdeal.main_arg4) = Cert.KernelIdeal.Val.aWv m c)
    (h5 : m' ((c.tc : Thread Cert.ReferenceIdeal.nD Cert.ReferenceIdeal.τ).loc Cert.ReferenceIdeal.main_arg5) = Cert.KernelIdeal.Val.aBq m c)
    (h6 : m' ((c.tc : Thread Cert.ReferenceIdeal.nD Cert.ReferenceIdeal.τ).loc Cert.ReferenceIdeal.main_arg6) = Cert.KernelIdeal.Val.aBk m c)
    (h7 : m' ((c.tc : Thread Cert.ReferenceIdeal.nD Cert.ReferenceIdeal.τ).loc Cert.ReferenceIdeal.main_arg7) = Cert.KernelIdeal.Val.aBv m c) :
    Cert.ReferenceIdeal.Value.res_main_v38 (F := Ideal) m' c = Cert.KernelIdeal.Val.resultLate m c := by
  rw [Cert.ReferenceIdeal.Val.res_eq, h0, h1, h2, h3, h4, h5, h6, h7]
  exact (Cert.KernelIdeal.Val.reference_eq m c).trans
    (Cert.KernelIdeal.Val.late_early m c (Cert.KernelIdeal.Val.score_real m c hp)).symm

/-- On finite inputs of the scores the idealized kernel and the reference leave the same result. -/
theorem values : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := fun m g m' g' hp h =>
  ⟨fun c => Cert.KernelIdeal.Val.resultLate m c,
    (θ_run Cert.KernelIdeal.defs _ _).mono
      (fun r hr c => ⟨(Cert.KernelIdeal.Attn.run_post m r hr.1 c).1.trans (Cert.KernelIdeal.Val.arr_eq m c), (Cert.KernelIdeal.Attn.run_post m r hr.1 c).2⟩)
      (Cert.KernelIdeal.Attn.run_main m g),
    (θ_run Cert.ReferenceIdeal.defs _ _).mono
      (fun r hr c => ⟨(hr c).1.trans (haveI := Cert.Pre_finite_scores.Gen.facts
        reference_value m m' c (hp c) (h c).1 (h c).2.1 (h c).2.2.1 (h c).2.2.2.1 (h c).2.2.2.2.1 (h c).2.2.2.2.2.1
          (h c).2.2.2.2.2.2.1 (h c).2.2.2.2.2.2.2), (hr c).2⟩)
      (Cert.ReferenceIdeal.Value.run m' g')⟩

theorem claim : Cert.Claim := ⟨Cert.Kernel.Gen.facts, Cert.KernelIdeal.Gen.facts, Cert.ReferenceIdeal.Gen.facts, Cert.Pre_finite_scores.Gen.facts,
  frame_kernel, frame_kernel_ideal, fun m g _ => frame_kernel_ideal m g trivial, frame_reference, fun m g _ => frame_reference m g trivial, mask_named, values⟩

end Cert.Proof

end
